-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_UnclippedIdeal (m : (ℓ : Loc Cert.UnclippedIdeal.nD Cert.UnclippedIdeal.τ Cert.UnclippedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_UnclippedIdeal [hUnclippedIdeal : Cert.UnclippedIdeal.Facts] : Prop :=
  ∀ (m : (ℓ : Loc Cert.UnclippedIdeal.nD Cert.UnclippedIdeal.τ Cert.UnclippedIdeal.sig) → Buf (Elt Ideal) ℓ) (g : Dev Cert.UnclippedIdeal.nD → PrngReg), Pre_UnclippedIdeal m →
    θ_run (Cert.UnclippedIdeal.defs (F := Ideal)) (onTc (τ := Cert.UnclippedIdeal.τ) (Cert.UnclippedIdeal.main (F := Ideal))) ⟨m, fun _ => 0, g⟩ (fun r => (∀ c : Dev Cert.UnclippedIdeal.nD,
      r.2.mem ((c.tc : Thread Cert.UnclippedIdeal.nD Cert.UnclippedIdeal.τ).loc Cert.UnclippedIdeal.main_arg0) = m ((c.tc : Thread Cert.UnclippedIdeal.nD Cert.UnclippedIdeal.τ).loc Cert.UnclippedIdeal.main_arg0)
      ∧ r.2.mem ((c.tc : Thread Cert.UnclippedIdeal.nD Cert.UnclippedIdeal.τ).loc Cert.UnclippedIdeal.main_arg1) = m ((c.tc : Thread Cert.UnclippedIdeal.nD Cert.UnclippedIdeal.τ).loc Cert.UnclippedIdeal.main_arg1))
      ∧ r.2.sem = fun _ => 0)

def preserves_Kernel_KernelIdeal : Prop :=
  True

def algebraic_KernelIdeal_UnclippedIdeal [hKernelIdeal : Cert.KernelIdeal.Facts] [hUnclippedIdeal : Cert.UnclippedIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.UnclippedIdeal.nD Cert.UnclippedIdeal.τ Cert.UnclippedIdeal.sig) → Buf (Elt Ideal) ℓ) (g' : Dev Cert.UnclippedIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 128]⟩ ⟨2, ![2048, 2048]⟩ 1 16 c (m' (((0 : Dev Cert.UnclippedIdeal.nD).tc : Thread Cert.UnclippedIdeal.nD Cert.UnclippedIdeal.τ).loc Cert.UnclippedIdeal.main_arg0))
      ∧ m ((c.tc : Thread Cert.KernelIdeal.nD Cert.KernelIdeal.τ).loc Cert.KernelIdeal.main_arg1) = m' (((0 : Dev Cert.UnclippedIdeal.nD).tc : Thread Cert.UnclippedIdeal.nD Cert.UnclippedIdeal.τ).loc Cert.UnclippedIdeal.main_arg1)) →
    ∃ (v0 : Buf (Elt Ideal) (((0 : Dev Cert.UnclippedIdeal.nD).tc : Thread Cert.UnclippedIdeal.nD Cert.UnclippedIdeal.τ).loc Cert.UnclippedIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 2048]⟩ ⟨2, ![2048, 2048]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.UnclippedIdeal.defs (F := Ideal)) (onTc (τ := Cert.UnclippedIdeal.τ) (Cert.UnclippedIdeal.main (F := Ideal))) ⟨m', fun _ => 0, g'⟩ (fun r =>
          r.2.mem (((0 : Dev Cert.UnclippedIdeal.nD).tc : Thread Cert.UnclippedIdeal.nD Cert.UnclippedIdeal.τ).loc Cert.UnclippedIdeal.main_v5) = v0
          ∧ r.2.mem (((0 : Dev Cert.UnclippedIdeal.nD).tc : Thread Cert.UnclippedIdeal.nD Cert.UnclippedIdeal.τ).loc Cert.UnclippedIdeal.main_arg0) = m' (((0 : Dev Cert.UnclippedIdeal.nD).tc : Thread Cert.UnclippedIdeal.nD Cert.UnclippedIdeal.τ).loc Cert.UnclippedIdeal.main_arg0)
          ∧ r.2.mem (((0 : Dev Cert.UnclippedIdeal.nD).tc : Thread Cert.UnclippedIdeal.nD Cert.UnclippedIdeal.τ).loc Cert.UnclippedIdeal.main_arg1) = m' (((0 : Dev Cert.UnclippedIdeal.nD).tc : Thread Cert.UnclippedIdeal.nD Cert.UnclippedIdeal.τ).loc Cert.UnclippedIdeal.main_arg1))

def algebraic_KernelIdeal_ReferenceIdeal_on_within_clip [hKernelIdeal : Cert.KernelIdeal.Facts] [hReferenceIdeal : Cert.ReferenceIdeal.Facts] [hOn_within_clip : Cert.On_within_clip.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 128]⟩ ⟨2, ![2048, 2048]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![128, 2048]⟩ : Shape).Idx, (Layout.block ⟨2, ![128, 2048]⟩ ⟨2, ![2048, 2048]⟩ 0 16 c ((Cert.On_within_clip.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)))) : (⟨2, ![128, 2048]⟩ : Shape).Idx → _) i = 1#1 → r.2.mem ((c.tc : Thread Cert.KernelIdeal.nD Cert.KernelIdeal.τ).loc Cert.KernelIdeal.main_v1) i = (Layout.block ⟨2, ![128, 2048]⟩ ⟨2, ![2048, 2048]⟩ 0 16 c v0 : (⟨2, ![128, 2048]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![2048, 2048]⟩ : Shape).Idx, (Cert.On_within_clip.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1))) i = 1#1 → r.2.mem (((0 : Dev Cert.ReferenceIdeal.nD).tc : Thread Cert.ReferenceIdeal.nD Cert.ReferenceIdeal.τ).loc Cert.ReferenceIdeal.main_v6) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hUnclippedIdeal : Cert.UnclippedIdeal.Facts) (hOn_within_clip : Cert.On_within_clip.Facts),
    quiescent_Kernel (hKernel := hKernel)
    ∧ quiescent_KernelIdeal (hKernelIdeal := hKernelIdeal)
    ∧ quiescent_ReferenceIdeal (hReferenceIdeal := hReferenceIdeal)
    ∧ quiescent_UnclippedIdeal (hUnclippedIdeal := hUnclippedIdeal)
    ∧ preserves_Kernel_KernelIdeal
    ∧ algebraic_KernelIdeal_UnclippedIdeal (hKernelIdeal := hKernelIdeal) (hUnclippedIdeal := hUnclippedIdeal)
    ∧ algebraic_KernelIdeal_ReferenceIdeal_on_within_clip (hKernelIdeal := hKernelIdeal) (hReferenceIdeal := hReferenceIdeal) (hOn_within_clip := hOn_within_clip)
-- ==== On_within_clip.lean ====
abbrev S2048x2048 : Shape := ⟨2, ![2048, 2048]⟩
abbrev S_ : Shape := ⟨0, ![]⟩

class Facts : Prop where
  bcast_S_S2048x2048 : S_.BroadcastsInDim S2048x2048 (![] : Fin 0 → Fin S2048x2048.rank)
  dot_S2048x2048_S2048x2048_S2048x2048_1_0_0_1_n_n_wf : DotDims.WF S2048x2048 S2048x2048 S2048x2048 [1] [0] [0] [1] [] []

variable [Facts]

def dot_S2048x2048_S2048x2048_S2048x2048_1_0_0_1_n_n : DotDims S2048x2048 S2048x2048 S2048x2048 where
  lhsContracting := [1]
  rhsContracting := [0]
  lhsNonContracting := [0]
  rhsNonContracting := [1]
  lhsBatch := []
  rhsBatch := []
  wf := dot_S2048x2048_S2048x2048_S2048x2048_1_0_0_1_n_n_wf
def fn {F : FTy → Type} [FloatOps F] (main_arg0 : FVec F S2048x2048 .f32) (main_arg1 : FVec F S2048x2048 .f32) : IVec S2048x2048 1 :=
  let main_v0 : FVec F S2048x2048 .f32 := (fun l r => Host.dotGeneral dot_S2048x2048_S2048x2048_S2048x2048_1_0_0_1_n_n none l r) main_arg0 main_arg1
  let main_cst : FVec F S_ .f32 := constant S_ .f32 0xC2700000#32
  let main_v1 : FVec F S2048x2048 .f32 := broadcastInDim S2048x2048 ![] bcast_S_S2048x2048 main_cst
  let main_v2 : IVec S2048x2048 1 := cmpf .oge main_v0 main_v1
  let main_cst_0 : FVec F S_ .f32 := constant S_ .f32 0x42700000#32
  let main_v3 : FVec F S2048x2048 .f32 := broadcastInDim S2048x2048 ![] bcast_S_S2048x2048 main_cst_0
  let main_v4 : IVec S2048x2048 1 := cmpf .ole main_v0 main_v3
  let main_v5 : IVec S2048x2048 1 := andi main_v2 main_v4
  main_v5
-- ==== Kernel.lean ====
abbrev S2048x128 : Shape := ⟨2, ![2048, 128]⟩
abbrev S2048x2048 : Shape := ⟨2, ![2048, 2048]⟩
abbrev S128x2048 : Shape := ⟨2, ![128, 2048]⟩
abbrev S16x128x128 : Shape := ⟨3, ![16, 128, 128]⟩
abbrev S16 : Shape := ⟨1, ![16]⟩
abbrev S_ : Shape := ⟨0, ![]⟩
abbrev S128x128 : Shape := ⟨2, ![128, 128]⟩
abbrev S1x128x128 : Shape := ⟨3, ![1, 128, 128]⟩
abbrev S1 : Shape := ⟨1, ![1]⟩

abbrev nBuf : Space → Nat
  | .hbm => 3
  | .vmem => 6
  | .smem => 0
  | _ => 0

abbrev bufTy : (tb : Table) → Fin (tcTables nBuf tb) → BufTy
  | .hbm, ⟨0, _⟩ => ⟨S2048x128, .f32⟩
  | .hbm, ⟨1, _⟩ => ⟨S2048x2048, .f32⟩
  | .hbm, ⟨2, _⟩ => ⟨S128x2048, .f32⟩
  | .local _ .vmem, ⟨0, _⟩ => ⟨S2048x128, .f32⟩
  | .local _ .vmem, ⟨1, _⟩ => ⟨S2048x2048, .f32⟩
  | .local _ .vmem, ⟨2, _⟩ => ⟨S128x2048, .f32⟩
  | .local _ .vmem, ⟨3, _⟩ => ⟨S2048x128, .bf16⟩
  | .local _ .vmem, ⟨4, _⟩ => ⟨S16x128x128, .bf16⟩
  | .local _ .vmem, ⟨5, _⟩ => ⟨S128x2048, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v10 : BitVec 32 := Scalar.addi v2 c1_i32_3
  let c16_i32_4 : BitVec 32 := 16#32
  let v11 : BitVec 32 := Scalar.remsi v10 c16_i32_4
  let c1_i32_6 : BitVec 32 := 1#32
  let v12 : BitVec 32 := Scalar.muli v11 c1_i32_6
  let v13 : BitVec 32 := Scalar.addi c0_i32 v12
  v13.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v14 : BitVec 32 := Scalar.addi v2 c2_i32
  let c16_i32_7 : BitVec 32 := 16#32
  let v15 : BitVec 32 := Scalar.remsi v14 c16_i32_7
  let c1_i32_9 : BitVec 32 := 1#32
  let v16 : BitVec 32 := Scalar.muli v15 c1_i32_9
  let v17 : BitVec 32 := Scalar.addi c0_i32_10 v16
  v17.toNat
def k0_dev3 (d0 : Dev nD) : Nat :=
  let c0_i32_14 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v18 : BitVec 32 := Scalar.addi v2 c3_i32
  let c16_i32_11 : BitVec 32 := 16#32
  let v19 : BitVec 32 := Scalar.remsi v18 c16_i32_11
  let c1_i32_13 : BitVec 32 := 1#32
  let v20 : BitVec 32 := Scalar.muli v19 c1_i32_13
  let v21 : BitVec 32 := Scalar.addi c0_i32_14 v20
  v21.toNat
def k0_dev4 (d0 : Dev nD) : Nat :=
  let c0_i32_18 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v22 : BitVec 32 := Scalar.addi v2 c4_i32
  let c16_i32_15 : BitVec 32 := 16#32
  let v23 : BitVec 32 := Scalar.remsi v22 c16_i32_15
  let c1_i32_17 : BitVec 32 := 1#32
  let v24 : BitVec 32 := Scalar.muli v23 c1_i32_17
  let v25 : BitVec 32 := Scalar.addi c0_i32_18 v24
  v25.toNat
def k0_dev5 (d0 : Dev nD) : Nat :=
  let c0_i32_22 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v26 : BitVec 32 := Scalar.addi v2 c5_i32
  let c16_i32_19 : BitVec 32 := 16#32
  let v27 : BitVec 32 := Scalar.remsi v26 c16_i32_19
  let c1_i32_21 : BitVec 32 := 1#32
  let v28 : BitVec 32 := Scalar.muli v27 c1_i32_21
  let v29 : BitVec 32 := Scalar.addi c0_i32_22 v28
  v29.toNat
def k0_dev6 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v30 : BitVec 32 := Scalar.addi v2 c6_i32
  let c16_i32_23 : BitVec 32 := 16#32
  let v31 : BitVec 32 := Scalar.remsi v30 c16_i32_23
  let c1_i32_25 : BitVec 32 := 1#32
  let v32 : BitVec 32 := Scalar.muli v31 c1_i32_25
  let v33 : BitVec 32 := Scalar.addi c0_i32_26 v32
  v33.toNat
def k0_dev7 (d0 : Dev nD) : Nat :=
  let c0_i32_30 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v34 : BitVec 32 := Scalar.addi v2 c7_i32
  let c16_i32_27 : BitVec 32 := 16#32
  let v35 : BitVec 32 := Scalar.remsi v34 c16_i32_27
  let c1_i32_29 : BitVec 32 := 1#32
  let v36 : BitVec 32 := Scalar.muli v35 c1_i32_29
  let v37 : BitVec 32 := Scalar.addi c0_i32_30 v36
  v37.toNat
def k0_dev8 (d0 : Dev nD) : Nat :=
  let c0_i32_34 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v38 : BitVec 32 := Scalar.addi v2 c8_i32
  let c16_i32_31 : BitVec 32 := 16#32
  let v39 : BitVec 32 := Scalar.remsi v38 c16_i32_31
  let c1_i32_33 : BitVec 32 := 1#32
  let v40 : BitVec 32 := Scalar.muli v39 c1_i32_33
  let v41 : BitVec 32 := Scalar.addi c0_i32_34 v40
  v41.toNat
def k0_dev9 (d0 : Dev nD) : Nat :=
  let c0_i32_38 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v42 : BitVec 32 := Scalar.addi v2 c9_i32
  let c16_i32_35 : BitVec 32 := 16#32
  let v43 : BitVec 32 := Scalar.remsi v42 c16_i32_35
  let c1_i32_37 : BitVec 32 := 1#32
  let v44 : BitVec 32 := Scalar.muli v43 c1_i32_37
  let v45 : BitVec 32 := Scalar.addi c0_i32_38 v44
  v45.toNat
def k0_dev10 (d0 : Dev nD) : Nat :=
  let c0_i32_42 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v46 : BitVec 32 := Scalar.addi v2 c10_i32
  let c16_i32_39 : BitVec 32 := 16#32
  let v47 : BitVec 32 := Scalar.remsi v46 c16_i32_39
  let c1_i32_41 : BitVec 32 := 1#32
  let v48 : BitVec 32 := Scalar.muli v47 c1_i32_41
  let v49 : BitVec 32 := Scalar.addi c0_i32_42 v48
  v49.toNat
def k0_dev11 (d0 : Dev nD) : Nat :=
  let c0_i32_46 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v50 : BitVec 32 := Scalar.addi v2 c11_i32
  let c16_i32_43 : BitVec 32 := 16#32
  let v51 : BitVec 32 := Scalar.remsi v50 c16_i32_43
  let c1_i32_45 : BitVec 32 := 1#32
  let v52 : BitVec 32 := Scalar.muli v51 c1_i32_45
  let v53 : BitVec 32 := Scalar.addi c0_i32_46 v52
  v53.toNat
def k0_dev12 (d0 : Dev nD) : Nat :=
  let c0_i32_50 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v54 : BitVec 32 := Scalar.addi v2 c12_i32
  let c16_i32_47 : BitVec 32 := 16#32
  let v55 : BitVec 32 := Scalar.remsi v54 c16_i32_47
  let c1_i32_49 : BitVec 32 := 1#32
  let v56 : BitVec 32 := Scalar.muli v55 c1_i32_49
  let v57 : BitVec 32 := Scalar.addi c0_i32_50 v56
  v57.toNat
def k0_dev13 (d0 : Dev nD) : Nat :=
  let c0_i32_54 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v58 : BitVec 32 := Scalar.addi v2 c13_i32
  let c16_i32_51 : BitVec 32 := 16#32
  let v59 : BitVec 32 := Scalar.remsi v58 c16_i32_51
  let c1_i32_53 : BitVec 32 := 1#32
  let v60 : BitVec 32 := Scalar.muli v59 c1_i32_53
  let v61 : BitVec 32 := Scalar.addi c0_i32_54 v60
  v61.toNat
def k0_dev14 (d0 : Dev nD) : Nat :=
  let c0_i32_58 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v62 : BitVec 32 := Scalar.addi v2 c14_i32
  let c16_i32_55 : BitVec 32 := 16#32
  let v63 : BitVec 32 := Scalar.remsi v62 c16_i32_55
  let c1_i32_57 : BitVec 32 := 1#32
  let v64 : BitVec 32 := Scalar.muli v63 c1_i32_57
  let v65 : BitVec 32 := Scalar.addi c0_i32_58 v64
  v65.toNat
def k0_dev15 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v66 : BitVec 32 := Scalar.addi v2 c15_i32
  let c16_i32_59 : BitVec 32 := 16#32
  let v67 : BitVec 32 := Scalar.remsi v66 c16_i32_59
  let c1_i32_61 : BitVec 32 := 1#32
  let v68 : BitVec 32 := Scalar.muli v67 c1_i32_61
  let v69 : BitVec 32 := Scalar.addi c0_i32_62 v68
  v69.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32 : BitVec 32 := 128#32
  let v70 : BitVec 32 := Scalar.muli v2 c128_i32
  let v71 : Index := Scalar.indexCast v70
  let c0_64 : Index := 0#32
  ![v71.toNat, 0]
def k0_off2 (d0 : Dev nD) (c1_i32_68 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v76 : BitVec 32 := Scalar.addi v2 c1_i32_68
  let c16_i32_69 : BitVec 32 := 16#32
  let v77 : BitVec 32 := Scalar.remsi v76 c16_i32_69
  let c128_i32_70 : BitVec 32 := 128#32
  let v78 : BitVec 32 := Scalar.muli v77 c128_i32_70
  let c0_i32_78 : BitVec 32 := 0#32
  ![v78.toNat, 0]
def k0_dev16 (d0 : Dev nD) : Nat :=
  let c0_i32_75 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_68 : BitVec 32 := 1#32
  let v76 : BitVec 32 := Scalar.addi v2 c1_i32_68
  let c16_i32_69 : BitVec 32 := 16#32
  let v77 : BitVec 32 := Scalar.remsi v76 c16_i32_69
  let c1_i32_74 : BitVec 32 := 1#32
  let v79 : BitVec 32 := Scalar.muli v77 c1_i32_74
  let v80 : BitVec 32 := Scalar.addi c0_i32_75 v79
  v80.toNat
def k0_dev17 (d0 : Dev nD) : Nat :=
  let c0_i32_86 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_79 : BitVec 32 := 2#32
  let v88 : BitVec 32 := Scalar.addi v2 c2_i32_79
  let c16_i32_80 : BitVec 32 := 16#32
  let v89 : BitVec 32 := Scalar.remsi v88 c16_i32_80
  let c1_i32_85 : BitVec 32 := 1#32
  let v91 : BitVec 32 := Scalar.muli v89 c1_i32_85
  let v92 : BitVec 32 := Scalar.addi c0_i32_86 v91
  v92.toNat
def k0_dev18 (d0 : Dev nD) : Nat :=
  let c0_i32_97 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_90 : BitVec 32 := 3#32
  let v100 : BitVec 32 := Scalar.addi v2 c3_i32_90
  let c16_i32_91 : BitVec 32 := 16#32
  let v101 : BitVec 32 := Scalar.remsi v100 c16_i32_91
  let c1_i32_96 : BitVec 32 := 1#32
  let v103 : BitVec 32 := Scalar.muli v101 c1_i32_96
  let v104 : BitVec 32 := Scalar.addi c0_i32_97 v103
  v104.toNat
def k0_dev19 (d0 : Dev nD) : Nat :=
  let c0_i32_108 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_101 : BitVec 32 := 4#32
  let v112 : BitVec 32 := Scalar.addi v2 c4_i32_101
  let c16_i32_102 : BitVec 32 := 16#32
  let v113 : BitVec 32 := Scalar.remsi v112 c16_i32_102
  let c1_i32_107 : BitVec 32 := 1#32
  let v115 : BitVec 32 := Scalar.muli v113 c1_i32_107
  let v116 : BitVec 32 := Scalar.addi c0_i32_108 v115
  v116.toNat
def k0_dev20 (d0 : Dev nD) : Nat :=
  let c0_i32_119 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_112 : BitVec 32 := 5#32
  let v124 : BitVec 32 := Scalar.addi v2 c5_i32_112
  let c16_i32_113 : BitVec 32 := 16#32
  let v125 : BitVec 32 := Scalar.remsi v124 c16_i32_113
  let c1_i32_118 : BitVec 32 := 1#32
  let v127 : BitVec 32 := Scalar.muli v125 c1_i32_118
  let v128 : BitVec 32 := Scalar.addi c0_i32_119 v127
  v128.toNat
def k0_dev21 (d0 : Dev nD) : Nat :=
  let c0_i32_130 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_123 : BitVec 32 := 6#32
  let v136 : BitVec 32 := Scalar.addi v2 c6_i32_123
  let c16_i32_124 : BitVec 32 := 16#32
  let v137 : BitVec 32 := Scalar.remsi v136 c16_i32_124
  let c1_i32_129 : BitVec 32 := 1#32
  let v139 : BitVec 32 := Scalar.muli v137 c1_i32_129
  let v140 : BitVec 32 := Scalar.addi c0_i32_130 v139
  v140.toNat
def k0_dev22 (d0 : Dev nD) : Nat :=
  let c0_i32_141 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_134 : BitVec 32 := 7#32
  let v148 : BitVec 32 := Scalar.addi v2 c7_i32_134
  let c16_i32_135 : BitVec 32 := 16#32
  let v149 : BitVec 32 := Scalar.remsi v148 c16_i32_135
  let c1_i32_140 : BitVec 32 := 1#32
  let v151 : BitVec 32 := Scalar.muli v149 c1_i32_140
  let v152 : BitVec 32 := Scalar.addi c0_i32_141 v151
  v152.toNat
def k0_dev23 (d0 : Dev nD) : Nat :=
  let c0_i32_152 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_145 : BitVec 32 := 8#32
  let v160 : BitVec 32 := Scalar.addi v2 c8_i32_145
  let c16_i32_146 : BitVec 32 := 16#32
  let v161 : BitVec 32 := Scalar.remsi v160 c16_i32_146
  let c1_i32_151 : BitVec 32 := 1#32
  let v163 : BitVec 32 := Scalar.muli v161 c1_i32_151
  let v164 : BitVec 32 := Scalar.addi c0_i32_152 v163
  v164.toNat
def k0_dev24 (d0 : Dev nD) : Nat :=
  let c0_i32_163 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_156 : BitVec 32 := 9#32
  let v172 : BitVec 32 := Scalar.addi v2 c9_i32_156
  let c16_i32_157 : BitVec 32 := 16#32
  let v173 : BitVec 32 := Scalar.remsi v172 c16_i32_157
  let c1_i32_162 : BitVec 32 := 1#32
  let v175 : BitVec 32 := Scalar.muli v173 c1_i32_162
  let v176 : BitVec 32 := Scalar.addi c0_i32_163 v175
  v176.toNat
def k0_dev25 (d0 : Dev nD) : Nat :=
  let c0_i32_174 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_167 : BitVec 32 := 10#32
  let v184 : BitVec 32 := Scalar.addi v2 c10_i32_167
  let c16_i32_168 : BitVec 32 := 16#32
  let v185 : BitVec 32 := Scalar.remsi v184 c16_i32_168
  let c1_i32_173 : BitVec 32 := 1#32
  let v187 : BitVec 32 := Scalar.muli v185 c1_i32_173
  let v188 : BitVec 32 := Scalar.addi c0_i32_174 v187
  v188.toNat
def k0_dev26 (d0 : Dev nD) : Nat :=
  let c0_i32_185 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_178 : BitVec 32 := 11#32
  let v196 : BitVec 32 := Scalar.addi v2 c11_i32_178
  let c16_i32_179 : BitVec 32 := 16#32
  let v197 : BitVec 32 := Scalar.remsi v196 c16_i32_179
  let c1_i32_184 : BitVec 32 := 1#32
  let v199 : BitVec 32 := Scalar.muli v197 c1_i32_184
  let v200 : BitVec 32 := Scalar.addi c0_i32_185 v199
  v200.toNat
def k0_dev27 (d0 : Dev nD) : Nat :=
  let c0_i32_196 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_189 : BitVec 32 := 12#32
  let v208 : BitVec 32 := Scalar.addi v2 c12_i32_189
  let c16_i32_190 : BitVec 32 := 16#32
  let v209 : BitVec 32 := Scalar.remsi v208 c16_i32_190
  let c1_i32_195 : BitVec 32 := 1#32
  let v211 : BitVec 32 := Scalar.muli v209 c1_i32_195
  let v212 : BitVec 32 := Scalar.addi c0_i32_196 v211
  v212.toNat
def k0_dev28 (d0 : Dev nD) : Nat :=
  let c0_i32_207 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_200 : BitVec 32 := 13#32
  let v220 : BitVec 32 := Scalar.addi v2 c13_i32_200
  let c16_i32_201 : BitVec 32 := 16#32
  let v221 : BitVec 32 := Scalar.remsi v220 c16_i32_201
  let c1_i32_206 : BitVec 32 := 1#32
  let v223 : BitVec 32 := Scalar.muli v221 c1_i32_206
  let v224 : BitVec 32 := Scalar.addi c0_i32_207 v223
  v224.toNat
def k0_dev29 (d0 : Dev nD) : Nat :=
  let c0_i32_218 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_211 : BitVec 32 := 14#32
  let v232 : BitVec 32 := Scalar.addi v2 c14_i32_211
  let c16_i32_212 : BitVec 32 := 16#32
  let v233 : BitVec 32 := Scalar.remsi v232 c16_i32_212
  let c1_i32_217 : BitVec 32 := 1#32
  let v235 : BitVec 32 := Scalar.muli v233 c1_i32_217
  let v236 : BitVec 32 := Scalar.addi c0_i32_218 v235
  v236.toNat
def k0_dev30 (d0 : Dev nD) : Nat :=
  let c0_i32_229 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_222 : BitVec 32 := 15#32
  let v244 : BitVec 32 := Scalar.addi v2 c15_i32_222
  let c16_i32_223 : BitVec 32 := 16#32
  let v245 : BitVec 32 := Scalar.remsi v244 c16_i32_223
  let c1_i32_228 : BitVec 32 := 1#32
  let v247 : BitVec 32 := Scalar.muli v245 c1_i32_228
  let v248 : BitVec 32 := Scalar.addi c0_i32_229 v247
  v248.toNat
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_236 : BitVec 32 := 128#32
  let v259 : BitVec 32 := Scalar.muli v2 c128_i32_236
  let v260 : Index := Scalar.indexCast v259
  let c0_237 : Index := 0#32
  ![v260.toNat, 0]
def k0_off4 (d0 : Dev nD) (c1_i32_248 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v272 : BitVec 32 := Scalar.subi v2 c1_i32_248
  let c16_i32_249 : BitVec 32 := 16#32
  let v273 : BitVec 32 := Scalar.addi v272 c16_i32_249
  let c16_i32_250 : BitVec 32 := 16#32
  let v274 : BitVec 32 := Scalar.remsi v273 c16_i32_250
  let c128_i32_253 : BitVec 32 := 128#32
  let v278 : BitVec 32 := Scalar.muli v274 c128_i32_253
  let v279 : Index := Scalar.indexCast v278
  let c0_254 : Index := 0#32
  ![v279.toNat, 0]
abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== UnclippedIdeal.lean ====
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Proto.lean ====
/-
# The exchange's contents, cells and schedule

The kernel on device `c` rounds its column block of `x` to bf16, hands every other device the block of rows that
device needs, and multiplies the sixteen landed blocks with the matching blocks of rows of `w`. Step `j` of the
exchange talks from device `c` to device `c + j` (addition on the sixteen devices), so slot `j` of the landing buffer
of device `c` is written by device `c - j`.

Cells of a device: its runtime barrier, sixteen send semaphores, sixteen receive semaphores (number 0 of either is never
used). One round each:
* barrier: fifteen duties of one unit; duty `i` is paid by device `c + i` and brings that device's slot `i`, which `c` writes;
* receive `j`: one duty, the block's credit, brings slot `j` holding the block of rows `c` of device `c - j`;
* send `j`: one duty, the block's credit, brings back the rows lent to the transfer.

Everything is indexed by the step, so each lemma is stated once for all fifteen.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.ViewIndex
public import Idealize.ShloMosaic.Lib.Tactic

@[expose] public section

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (rangeSet mem_rangeSet)

variable {F : FTy → Type} [FloatOps F]

abbrev UB : Type := URounds (GSem nD τ sig) (Fin 16)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

theorem there_back (c j : Dev nD) : c + j - j = c := by revert c j; decide
theorem back_there (c j : Dev nD) : c - j + j = c := by revert c j; decide
theorem there_neg (c j : Dev nD) : c + j + -j = c := by revert c j; decide

/-! ## Buffers, slots and blocks of rows -/

abbrev xM : Memref sig .tc .vmem S2048x128 .f32 := Memref.whole cc0_stg0_0
abbrev wM : Memref sig .tc .vmem S2048x2048 .f32 := Memref.whole cc0_stg1_0
abbrev oM : Memref sig .tc .vmem S128x2048 .f32 := Memref.whole cc0_stg2_0
abbrev bM : Memref sig .tc .vmem S2048x128 .bf16 := Memref.whole cc0_scratch0
abbrev gM : Memref sig .tc .vmem S16x128x128 .bf16 := Memref.whole cc0_scratch1
abbrev aM : Memref sig .tc .vmem S128x2048 .f32 := Memref.whole cc0_scratch2

theorem slot_inb : ∀ j : Fin 16, ∀ a, (![j.val, 0, 0] : Fin 3 → Nat) a + S1x128x128.size a ≤ S16x128x128.size a := by decide
theorem row_inb : ∀ d : Fin 16, ∀ a, (![128 * d.val, 0] : Fin 2 → Nat) a + S128x128.size a ≤ S2048x128.size a := by decide
theorem wrow_inb : ∀ d : Fin 16, ∀ a, (![128 * d.val, 0] : Fin 2 → Nat) a + S128x2048.size a ≤ S2048x2048.size a := by decide

abbrev slotR (j : Fin 16) : Rect S16x128x128 := Rect.unit (s := S16x128x128) ![j.val, 0, 0] S1x128x128.size (slot_inb j)
abbrev rowR (d : Fin 16) : Rect S2048x128 := Rect.unit (s := S2048x128) ![128 * d.val, 0] S128x128.size (row_inb d)
abbrev wrowR (d : Fin 16) : Rect S2048x2048 := Rect.unit (s := S2048x2048) ![128 * d.val, 0] S128x2048.size (wrow_inb d)
abbrev fullR : Rect S128x2048 := Rect.unit (s := S128x2048) ![0, 0] S128x2048.size inb_S128x2048_S128x2048_0_0

/-- Slot `j` of the landing buffer, as the transfers address it; -/
abbrev slotM (j : Fin 16) : Memref sig .tc .vmem S128x128 .bf16 :=
  (gM.slice (slotR j) (fun _ => rfl)).squeeze S128x128 squeezes_S1x128x128_S128x128
/-- the block of rows number `d` of the rounded operand. -/
abbrev rowM (d : Fin 16) : Memref sig .tc .vmem S128x128 .bf16 := bM.slice (rowR d) (fun _ => rfl)

theorem set_slot (j : Fin 16) : (slotM j).view.set = (slotR j).set :=
  (View.set_reshape _ _).trans (View.set_slice_whole _ _)
theorem set_row (d : Fin 16) : (rowM d).view.set = (rowR d).set := View.set_slice_whole _ _

/-! ## Semaphores and cells -/

abbrev barS : Sem sig := (SemArray.scalar (sig.barrier 0 rfl) : Sems sig S_).sem
set_option backward.proofsInPublic true in
abbrev sendS (j : Fin 16) : DmaSem sig := ⟨3 + j.val, by have := j.isLt; show 3 + j.val < 35; omega⟩
set_option backward.proofsInPublic true in
abbrev recvS (j : Fin 16) : DmaSem sig := ⟨19 + j.val, by have := j.isLt; show 19 + j.val < 35; omega⟩

abbrev barCell (c : Dev nD) : GSem nD τ sig := ((c : Thread nD τ), .reg barS)
abbrev sendCell (c : Dev nD) (j : Fin 16) : GSem nD τ sig := ((c : Thread nD τ), .dma (sendS j))
abbrev recvCell (c : Dev nD) (j : Fin 16) : GSem nD τ sig := ((c : Thread nD τ), .dma (recvS j))

/-- The kernel's own semaphores: `(false, j)` send `j`, `(true, j)` receive `j`; -/
abbrev osem : Bool × Fin 16 → SemLoc sig := fun k => .dma (if k.1 then recvS k.2 else sendS k.2)
/-- with the runtime's barrier, all the cells of one device. -/
abbrev csem : Option (Bool × Fin 16) → SemLoc sig
  | none => .reg barS
  | some k => osem k
abbrev kcell (ck : Dev nD × Option (Bool × Fin 16)) : GSem nD τ sig := ((ck.1 : Thread nD τ), csem ck.2)

/-- What a semaphore is for. -/
inductive Role where
  | bar | send (j : Fin 16) | recv (j : Fin 16) | other

def role : SemLoc sig → Role
  | .reg _ => .bar
  | .dma q => if h : 3 ≤ q.val ∧ q.val < 19 then .send ⟨q.val - 3, by omega⟩
      else if h : 19 ≤ q.val ∧ q.val < 35 then .recv ⟨q.val - 19, by omega⟩ else .other

theorem role_bar (s : Sem sig) : role (.reg s) = .bar := rfl
theorem role_send (j : Fin 16) : role (.dma (sendS j)) = .send j := by
  have := j.isLt
  refine (dif_pos ⟨by dsimp only; omega, by dsimp only; omega⟩).trans ?_
  exact congrArg Role.send (Fin.ext (Nat.add_sub_cancel_left 3 j.val))
theorem role_recv (j : Fin 16) : role (.dma (recvS j)) = .recv j := by
  have := j.isLt
  have h1 : ¬ (3 ≤ (recvS j).val ∧ (recvS j).val < 19) := fun h => by dsimp only at h; omega
  have h2 : 19 ≤ (recvS j).val ∧ (recvS j).val < 35 := ⟨by dsimp only; omega, by dsimp only; omega⟩
  refine ((dif_neg h1).trans (dif_pos h2)).trans ?_
  exact congrArg Role.recv (Fin.ext (Nat.add_sub_cancel_left 19 j.val))

abbrev N : ℕ := (slotM 0).view.dmaCredit
theorem N_pos : 0 < N := View.dmaCredit_pos _ (by decide)

/-! ## Contents -/

/-- The staged operands of device `c`: its column block of `x`, and `w`. -/
def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))

/-- Its block of `x` rounded; -/
def xb (c : Dev nD) : (cc0_scratch0 : Ref sig .tc).ty.Contents (Elt F) := k0_pay2 (xstg m ρ c)
/-- the block of rows `d` of the rounded block of device `s`; -/
def blk (s d : Dev nD) : Vec F S128x128 .bf16 := (rowM d).view.read (Elt F) (xb m ρ s)
/-- what slot `j` of device `c` ends up holding; -/
def slotVal (c : Dev nD) (j : Fin 16) : Vec F S1x128x128 .bf16 := k0_pay3 (blk m ρ (c - j) c)
/-- the block of rows `d` of `w`. -/
def wblk (c d : Dev nD) : Vec F S128x2048 .f32 := wM.view.readAt (Elt F) (wrowR d).toLoadRect (wstg m ρ c)

/-- Slot `j` of device `c` at contents `f`; -/
def slotPts (c : Dev nD) (j : Fin 16) (f : Buf (Elt F) ((slotM j).view.loc (c : Thread nD τ))) : sProp 𝕄 :=
  (slotM j).view.loc (c : Thread nD τ) ↦[(slotM j).view.set]{fullShare} f
/-- at some contents that read as the landed block; -/
def slotGot (c : Dev nD) (j : Fin 16) : sProp 𝕄 :=
  iprop(∃ f : Buf (Elt F) (gM.view.loc (c : Thread nD τ)), ⌜gM.view.readAt (Elt F) (slotR j).toLoadRect f = slotVal m ρ c j⌝ ∗ slotPts c j f)
/-- the block of rows `d` of device `c`'s rounded operand. -/
def rowPts (c : Dev nD) (d : Fin 16) : sProp 𝕄 :=
  (rowM d).view.loc (c : Thread nD τ) ↦[(rowM d).view.set]{fullShare} xb m ρ c

omit [FloatOps F] in
instance slotPts_storable (c : Dev nD) (j f) : BI.Storable (upEmb : UEmb _ 𝕄) (slotPts (F := F) c j f) := by unfold slotPts; infer_instance
instance slotGot_storable (c : Dev nD) (j) : BI.Storable (upEmb : UEmb _ 𝕄) (slotGot (F := F) m ρ c j) := by unfold slotGot; infer_instance
instance rowPts_storable (c : Dev nD) (d) : BI.Storable (upEmb : UEmb _ 𝕄) (rowPts (F := F) m ρ c d) := by unfold rowPts; infer_instance

/-- A block read out of the rounded operand of `s` and written over slot `j` of device `s + j` makes that slot's value. -/
theorem landed (s : Dev nD) (j : Fin 16) (fd : Buf (Elt F) ((slotM j).view.loc ((s + j : Dev nD) : Thread nD τ))) :
    gM.view.readAt (Elt F) (slotR j).toLoadRect
      ((slotM j).view.write (Elt F) fd ((rowM (s + j)).view.read (Elt F) (xb m ρ s)) Finset.univ) = slotVal m ρ (s + j) j := by
  unfold slotVal blk
  rw [there_back]
  generalize (rowM (s + j)).view.read (Elt F) (xb m ρ s) = w
  refine funext fun x => ?_
  have h := View.read_write_reshape (Val := Elt F) (gM.view.slice (slotR j)) squeezes_S1x128x128_S128x128.numel_eq fd w
    ((Shape.reshapeEquiv squeezes_S1x128x128_S128x128.numel_eq).symm x)
  rw [Equiv.apply_symm_apply] at h
  exact h.trans rfl

/-! ## The schedule -/

/-- What device `p + d` hands `p` with its signal. -/
def barPay (p : Dev nD) (d : Fin 16) : sProp 𝕄 := iprop(∃ f, slotPts (p + d) d f)

def rd : Rounds.Schedule (GSem nD τ sig) (Fin 16) 𝕄 where
  duties g r := if r = 0 ∧ g.1.2 = .tc then
      (match role g.2 with
        | .bar => rangeSet 16 1 16
        | .send j => if j = 0 then ∅ else {0}
        | .recv j => if j = 0 then ∅ else {0}
        | .other => ∅)
    else ∅
  unitless _ := False
  amount g _ _ := match role g.2 with
    | .bar => 1
    | _ => N
  payload g _ d := match role g.2 with
    | .bar => barPay g.1.1 d
    | .send j => rowPts m ρ g.1.1 (g.1.1 + j)
    | .recv j => slotGot m ρ g.1.1 j
    | .other => iprop(emp)
  amount_pos g _ _ _ := by
    split
    · exact Nat.one_pos
    · exact N_pos

instance rd_payload_storable (g : GSem nD τ sig) (r : ℕ) (d : Fin 16) :
    BI.Storable (upEmb : UEmb _ 𝕄) ((rd (F := F) m ρ).payload g r d) := by
  dsimp only [rd]
  unfold barPay
  split <;> infer_instance

section Sched
variable (c : Dev nD) (j : Fin 16)

theorem duties_bar : (rd (F := F) m ρ).duties (barCell c) 0 = rangeSet 16 1 16 := by
  dsimp only [rd]; rw [if_pos ⟨rfl, rfl⟩]; rfl
theorem duties_send (hj : j ≠ 0) : (rd (F := F) m ρ).duties (sendCell c j) 0 = {0} := by
  dsimp only [rd]; rw [if_pos ⟨rfl, rfl⟩, role_send]; exact if_neg hj
theorem duties_recv (hj : j ≠ 0) : (rd (F := F) m ρ).duties (recvCell c j) 0 = {0} := by
  dsimp only [rd]; rw [if_pos ⟨rfl, rfl⟩, role_recv]; exact if_neg hj
theorem duties_later (g : GSem nD τ sig) : ∀ r, 1 ≤ r → (rd (F := F) m ρ).duties g r = ∅ :=
  fun r hr => by dsimp only [rd]; exact if_neg fun h => by omega
theorem duties_send0 : ∀ r, 0 ≤ r → (rd (F := F) m ρ).duties (sendCell c 0) r = ∅ := fun r _ => by
  dsimp only [rd]; rw [role_send]
  by_cases h : r = 0 ∧ (sendCell c 0).1.2 = .tc
  · rw [if_pos h]; exact if_pos rfl
  · rw [if_neg h]
theorem duties_recv0 : ∀ r, 0 ≤ r → (rd (F := F) m ρ).duties (recvCell c 0) r = ∅ := fun r _ => by
  dsimp only [rd]; rw [role_recv]
  by_cases h : r = 0 ∧ (recvCell c 0).1.2 = .tc
  · rw [if_pos h]; exact if_pos rfl
  · rw [if_neg h]

theorem amount_bar (d : Fin 16) : (rd (F := F) m ρ).amount (barCell c) 0 d = 1 := rfl
theorem amount_send (d : Fin 16) : (rd (F := F) m ρ).amount (sendCell c j) 0 d = N := by dsimp only [rd]; rw [role_send]
theorem amount_recv (d : Fin 16) : (rd (F := F) m ρ).amount (recvCell c j) 0 d = N := by dsimp only [rd]; rw [role_recv]

theorem card_steps : (rangeSet 16 1 16).card = 15 := by decide

theorem expect_bar : (rd (F := F) m ρ).expect (barCell c) 0 = 15 := by
  unfold Schedule.expect Schedule.amountOf
  rw [duties_bar, Finset.sum_congr rfl fun d _ => amount_bar m ρ c d, Finset.sum_const, card_steps, smul_eq_mul]
theorem expect_send (hj : j ≠ 0) : (rd (F := F) m ρ).expect (sendCell c j) 0 = N := by
  unfold Schedule.expect Schedule.amountOf; rw [duties_send m ρ c j hj, Finset.sum_singleton, amount_send]
theorem expect_recv (hj : j ≠ 0) : (rd (F := F) m ρ).expect (recvCell c j) 0 = N := by
  unfold Schedule.expect Schedule.amountOf; rw [duties_recv m ρ c j hj, Finset.sum_singleton, amount_recv]

theorem payload_bar (d : Fin 16) : (rd (F := F) m ρ).payload (barCell c) 0 d = barPay c d := rfl
theorem payload_send (d : Fin 16) : (rd (F := F) m ρ).payload (sendCell c j) 0 d = rowPts m ρ c (c + j) := by dsimp only [rd]; rw [role_send]
theorem payload_recv (d : Fin 16) : (rd (F := F) m ρ).payload (recvCell c j) 0 d = slotGot m ρ c j := by dsimp only [rd]; rw [role_recv]

theorem rest_bar : bigSep ((rd (F := F) m ρ).duties (barCell c) 0 \ ∅) (fun d => (rd (F := F) m ρ).payload (barCell c) 0 d)
    = bigSep (rangeSet 16 1 16) fun d => barPay c d := by
  rw [Finset.sdiff_empty, duties_bar]; rfl
theorem rest_send (hj : j ≠ 0) : bigSep ((rd (F := F) m ρ).duties (sendCell c j) 0 \ ∅) (fun d => (rd (F := F) m ρ).payload (sendCell c j) 0 d)
    = rowPts m ρ c (c + j) := by
  rw [Finset.sdiff_empty, duties_send m ρ c j hj, bigSep_singleton, payload_send]
theorem rest_recv (hj : j ≠ 0) : bigSep ((rd (F := F) m ρ).duties (recvCell c j) 0 \ ∅) (fun d => (rd (F := F) m ρ).payload (recvCell c j) 0 d)
    = slotGot m ρ c j := by
  rw [Finset.sdiff_empty, duties_recv m ρ c j hj, bigSep_singleton, payload_recv]

end Sched

/-! ## What each core owes, and the levels -/

/-- The receive credits device `c` still owes when its next transfer is number `t`; -/
def Osend (c : Dev nD) (t : ℕ) : CellTallies nD τ sig Unit := ∑ i ∈ rangeSet 16 t 16, tallyAt (recvCell (c + i) i) () N
/-- and what it owes when its next signal is number `t`. -/
def Osig (c : Dev nD) (t : ℕ) : CellTallies nD τ sig Unit := (∑ i ∈ rangeSet 16 t 16, tallyAt (barCell (c + i)) () 1) + Osend c 1

theorem rangeSet_step (j : Fin 16) : rangeSet 16 j.val 16 = insert j (rangeSet 16 (j.val + 1) 16) :=
  Ring.rangeSet_head j.isLt j.isLt
theorem notMem_step (j : Fin 16) : j ∉ rangeSet 16 (j.val + 1) 16 := Ring.head_not_mem_rangeSet j.isLt
theorem rangeSet_done (j : Fin 16) (hj : j ≠ 0) : rangeSet 16 1 (j.val + 1) = insert j (rangeSet 16 1 j.val) := by
  have : j.val ≠ 0 := fun h => hj (Fin.ext h)
  ext b; rw [Finset.mem_insert, mem_rangeSet, mem_rangeSet, Fin.ext_iff]; omega
theorem notMem_done (j : Fin 16) : j ∉ rangeSet 16 1 j.val := by rw [mem_rangeSet]; omega

theorem Osend_step (c : Dev nD) (j : Fin 16) : Osend c j.val = Osend c (j.val + 1) + tallyAt (recvCell (c + j) j) () N := by
  unfold Osend; rw [rangeSet_step, Finset.sum_insert (notMem_step j), add_comm]
theorem Osig_step (c : Dev nD) (j : Fin 16) : Osig c j.val = Osig c (j.val + 1) + tallyAt (barCell (c + j)) () 1 := by
  unfold Osig; rw [rangeSet_step, Finset.sum_insert (notMem_step j), add_assoc, add_comm]
theorem Osend_end (c : Dev nD) : Osend c 16 = 0 := by unfold Osend; rw [Ring.rangeSet_empty le_rfl, Finset.sum_empty]
theorem Osig_end (c : Dev nD) : Osig c 16 = Osend c 1 := by unfold Osig; rw [Ring.rangeSet_empty le_rfl, Finset.sum_empty, zero_add]

def L (g : GSem nD τ sig) : Finset Unit := if g.1.2 = .tc then {()} else ∅
/-- barrier cells at 1, receive cells at 2, the rest (staging, send) at 0. -/
def lv (g : GSem nD τ sig) (_ : Unit) : ℕ := match role g.2 with
  | .bar => 1
  | .recv _ => 2
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_recv (c : Dev nD) (j : Fin 16) (u : Unit) : lv (recvCell c j) u = 2 := by unfold lv; rw [role_recv]

theorem sum_pos {I : Type} (s : Finset I) (f : I → CellTallies nD τ sig Unit) {g : GSem nD τ sig} {u : Unit}
    (h : 0 < (∑ i ∈ s, f i) g u) : ∃ i ∈ s, 0 < f i g u := by
  classical
  by_contra hn
  push Not at hn
  have : (∑ i ∈ s, f i) g u = 0 := by
    rw [Finset.sum_apply, Finsupp.finset_sum_apply]
    exact Finset.sum_eq_zero fun i hi => Nat.le_zero.mp (hn i hi)
  omega
theorem tallyAt_pos {g g' : GSem nD τ sig} {u u' : Unit} {k : ℕ} (h : 0 < tallyAt g' u' k g u) : g = g' := by
  rw [tallyAt_apply] at h
  by_contra hn
  rw [if_neg (fun h' => hn h'.1)] at h
  exact Nat.lt_irrefl 0 h

theorem Osend_pos {c : Dev nD} {t : ℕ} {g : GSem nD τ sig} {u : Unit} (h : 0 < Osend c t g u) : ∃ d j, g = recvCell d j := by
  obtain ⟨i, -, hi⟩ := sum_pos _ _ h
  exact ⟨_, _, tallyAt_pos hi⟩
theorem Osig_pos {c : Dev nD} {t : ℕ} {g : GSem nD τ sig} {u : Unit} (h : 0 < Osig c t g u) :
    (∃ d, g = barCell d) ∨ ∃ d j, g = recvCell d j := by
  unfold Osig at h
  rw [Pi.add_apply, Finsupp.add_apply] at h
  rcases Nat.eq_zero_or_pos ((∑ i ∈ rangeSet 16 t 16, tallyAt (barCell (c + i)) () 1) g u) with h0 | h0
  · rw [h0, zero_add] at h; exact Or.inr (Osend_pos h)
  · obtain ⟨i, -, hi⟩ := sum_pos _ _ h0
    exact Or.inl ⟨_, tallyAt_pos hi⟩

omit [FloatOps F] in
theorem mayWait_stage (c : Dev nD) (q : DmaSem sig) (hq : lv ((c : Thread nD τ), .dma q) () = 0) (O : CellTallies nD τ sig Unit)
    (hO : O = Osig c 1 ∨ O = 0) : (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases Osig_pos hg with ⟨d, rfl⟩ | ⟨d, j, rfl⟩ <;> exact Finset.mem_singleton_self _)
      (fun p hp => by rw [Finset.mem_singleton.mp hp]; exact hq.le)
      (fun g u hg => by
        rcases Osig_pos hg with ⟨d, rfl⟩ | ⟨d, j, rfl⟩
        · rw [lv_bar]; decide
        · rw [lv_recv]; decide)
  · rw [MayWait_zero]; iintro -; iempintro

omit [FloatOps F] in
/-- At its barrier wait a device owes receive credits only. -/
theorem mayWait_bar (c : Dev nD) : (levAts L lv : sProp 𝕄) ⊢ MayWait (c : Thread nD τ) (.reg barS) () (Osend c 1) :=
  MayOwe.of_cut (L := L) (lev := lv) 1 (fun p hp => by rw [Finset.mem_singleton.mp hp, L_tc]; exact Finset.mem_singleton_self _)
    (fun g u hg => by obtain ⟨d, j, rfl⟩ := Osend_pos hg; exact Finset.mem_singleton_self _)
    (fun p hp => by rw [Finset.mem_singleton.mp hp]; exact (lv_bar c ()).le)
    (fun g u hg => by obtain ⟨d, j, rfl⟩ := Osend_pos hg; rw [lv_recv]; decide)

end Cert.AllToAll

end
-- ==== Proof.Steps.lean ====
/-
# One rule per kind of step of the exchange

Each lemma runs the program over one step of the exchange, for any step number: a signal, a transfer, a receive wait with
the accumulation that follows it, a send wait. The state of a phase is a family over the steps still to come
(`rangeSet 16 t 16`) and one over those done (`rangeSet 16 1 t`).
-/
module

public import proofs.«01_k».proof.Proof.Proto

@[expose] public section

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (rangeSet mem_rangeSet)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The program `p` run on device `c`, to the postcondition `Q`. -/
abbrev Run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

abbrev CI : Type := Option (Bool × Fin 16)

/-! ## The cells' records -/

/-- Every cell's invariant, under the names the launch chose, and that every cell has reached round 0. -/
def records (K : Dev nD × CI → ℕ) : sProp 𝕄 :=
  iprop((bigSep Finset.univ fun ck : Dev nD × CI => cellInv ER (rd m ρ) (K ck) (kcell ck))
    ∗ bigSep Finset.univ fun ck : Dev nD × CI => reached ER (kcell ck) 0)

instance records_persistent (K : Dev nD × CI → ℕ) : BI.Persistent (records m ρ K) := by unfold records; infer_instance

variable (K : Dev nD × CI → ℕ)

theorem inv_at (ck : Dev nD × CI) : records m ρ K ⊢ cellInv ER (rd m ρ) (K ck) (kcell ck) := by
  unfold records
  iintro ⟨H, -⟩
  iapply (show (bigSep Finset.univ fun ck : Dev nD × CI => (cellInv ER (rd m ρ) (K ck) (kcell ck) : sProp 𝕄)) ⊢ cellInv ER (rd m ρ) (K ck) (kcell ck)
    from bigSep_elim (Finset.mem_univ ck)); iexact H
theorem reached_at (ck : Dev nD × CI) : records m ρ K ⊢ reached ER (kcell ck) 0 := by
  unfold records
  iintro ⟨-, H⟩
  iapply (show (bigSep Finset.univ fun ck : Dev nD × CI => (reached ER (kcell ck) 0 : sProp 𝕄)) ⊢ reached ER (kcell ck) 0
    from bigSep_elim (Finset.mem_univ ck)); iexact H

omit [FloatOps F] in
/-- The steps still to come are the next one and the later ones; -/
theorem bigSep_step (j : Fin 16) (Φ : Fin 16 → sProp 𝕄) :
    bigSep (rangeSet 16 j.val 16) Φ = iprop(Φ j ∗ bigSep (rangeSet 16 (j.val + 1) 16) Φ) := Ring.bigSep_rangeSet_head j.isLt j.isLt
omit [FloatOps F] in
/-- and the steps done after it are it and the earlier ones. -/
theorem bigSep_done (j : Fin 16) (hj : j ≠ 0) (Φ : Fin 16 → sProp 𝕄) :
    bigSep (rangeSet 16 1 (j.val + 1)) Φ = iprop(Φ j ∗ bigSep (rangeSet 16 1 j.val) Φ) := by
  rw [rangeSet_done j hj, bigSep_insert (notMem_done j)]; rfl

section Steps
variable (c : Dev nD) (j : Fin 16)

theorem inv_bar : records m ρ K ⊢ cellInv ER (rd m ρ) (K (c, none)) (barCell c) := inv_at m ρ K (c, none)
theorem inv_send : records m ρ K ⊢ cellInv ER (rd m ρ) (K (c, some (false, j))) (sendCell c j) := inv_at m ρ K (c, some (false, j))
theorem inv_recv : records m ρ K ⊢ cellInv ER (rd m ρ) (K (c, some (true, j))) (recvCell c j) := inv_at m ρ K (c, some (true, j))
theorem reached_bar : records m ρ K ⊢ reached ER (barCell c) 0 := reached_at m ρ K (c, none)
theorem reached_send : records m ρ K ⊢ reached ER (sendCell c j) 0 := reached_at m ρ K (c, some (false, j))
theorem reached_recv : records m ρ K ⊢ reached ER (recvCell c j) 0 := reached_at m ρ K (c, some (true, j))

/-! ## Signals -/

/-- Before signal `t`: the tokens of the signals left, each with the slot it hands over. -/
def SigSt (t : ℕ) : sProp 𝕄 :=
  iprop((∃ W, owes (c : Thread nD τ) (Osig c t) W)
    ∗ bigSep (rangeSet 16 t 16) fun i => iprop(dutyTok ER (barCell (c + i)) 0 (-i) ∗ ∃ f, slotPts (F := F) c (-i) f))

theorem neg_mem_steps : ∀ j : Fin 16, j ≠ 0 → -j ∈ rangeSet 16 1 16 := by decide

theorem signal_step (hj : j ≠ 0) (n : Dev nD) (hn : n = c + j) {α : Type} {Q : α → sProp 𝕄}
    {k : PUnit → Prog (TpuEff nD τ sig (Elt F) Λ₀ .tc) α} :
    iprop(records m ρ K ∗ SigSt c j.val)
      ⊢ iprop((SigSt c (j.val + 1) -∗ Run c (k ⟨⟩) Q) -∗ Run c (.op (.semSignal (n : Thread nD τ) barS (1#32).toInt) k) Q) := by
  subst hn
  unfold SigSt
  rw [bigSep_step, Osig_step]
  iintro ⟨#HR, ⟨%W, HO⟩, ⟨Ht, Hs⟩, Hrest⟩ Hk
  iapply (Rounds.wp_signal 𝒱₀ ER (rd m ρ) (c : Thread nD τ) none (dst := ((c + j : Dev nD) : Thread nD τ)) (κ := K (c + j, none))
      (d := -j) (by rw [duties_bar]; exact neg_mem_steps j hj) ((amount_bar m ρ (c + j) (-j)).trans (by decide)) () (Osig c (j.val + 1)) rfl)
    $$ [HO Ht Hs]
  · isplitr; · iapply (inv_bar m ρ K (c + j)); iexact HR
    isplitl [HO]; · iexact HO
    isplitl [Ht]; · iexact Ht
    isplitl [Hs]
    · rw [payload_bar]; unfold barPay; rw [there_neg]; iexact Hs
    · iapply (reached_bar m ρ K (c + j)); iexact HR
  iintro HO
  iapply Hk
  isplitl [HO]; · iexists W; iexact HO
  iexact Hrest

/-! ## Transfers -/

/-- Before transfer `t`: for each transfer left its two tokens, the rows it reads and the slot it writes; for each done
    the credit of its send cell. -/
def SendSt (t : ℕ) : sProp 𝕄 :=
  iprop((∃ W, owes (c : Thread nD τ) (Osend c t) W)
    ∗ (bigSep (rangeSet 16 t 16) fun i => iprop(dutyTok ER (sendCell c i) 0 0 ∗ dutyTok ER (recvCell (c + i) i) 0 0
        ∗ rowPts m ρ c (c + i) ∗ ∃ f, slotPts (F := F) (c + i) i f))
    ∗ bigSep (rangeSet 16 1 t) fun i => cred (tallyAt (sendCell c i) () N))

theorem send_step (hj : j ≠ 0) (n : Dev nD) (hn : n = c + j) (off : Fin 2 → Nat) (hoff : off = ![128 * (c + j).val, 0])
    {inb : ∀ a, off a + S128x128.size a ≤ S2048x128.size a} {hs : ∀ a, (Rect.unit (s := S2048x128) off S128x128.size inb).stride a = 1}
    {hsc : (slotM j : Memref sig (Dev.tc n : Thread nD τ).2.kind .vmem S128x128 .bf16).view.ref.isScScratch = false}
    {hsrc : (bM.slice (Rect.unit (s := S2048x128) off S128x128.size inb) hs).view.WordExact} {hdst : (slotM j).view.WordExact}
    {hsem : DmaTarget.Typed .vmem (.dma (recvS j)) (.remote (Dev.tc n : Thread nD τ) (slotM j) (.dma (sendS j)) hsc)}
    {α : Type} {Q : α → sProp 𝕄} {k : PUnit → Prog (TpuEff nD τ sig (Elt F) Λ₀ .tc) α} :
    iprop(records m ρ K ∗ SendSt m ρ c j.val)
      ⊢ iprop((SendSt m ρ c (j.val + 1) -∗ Run c (k ⟨⟩) Q)
          -∗ Run c (.op (.enqueueDma (bM.slice (Rect.unit (s := S2048x128) off S128x128.size inb) hs)
              (.remote (Dev.tc n : Thread nD τ) (slotM j) (.dma (sendS j)) hsc) (.dma (recvS j)) hsrc hdst hsem) k) Q) := by
  subst hn hoff
  unfold SendSt
  rw [bigSep_step, bigSep_done j hj, Osend_step]
  iintro ⟨#HR, ⟨%W, HO⟩, ⟨⟨Ht1, Ht2, Hrow, ⟨%fd, Hslot⟩⟩, Hrest⟩, Hdone⟩ Hk
  iapply (Rounds.wp_send_pointsTo 𝒱₀ ER (rd m ρ) (c : Thread nD τ) none (c' := ((c + j : Dev nD) : Thread nD τ)) (src := rowM (c + j)) (dst := slotM j) (κ₁ := K (c, some (false, j))) (κ₂ := K (c + j, some (true, j)))
    (r₁ := 0) (r₂ := 0) (d₁ := 0) (d₂ := 0) (fs := xb m ρ c) (fd := fd) (q := fullShare)
    (by rw [duties_send m ρ c j hj]; exact Finset.mem_singleton_self _) (by rw [duties_recv m ρ (c + j) j hj]; exact Finset.mem_singleton_self _)
    () () N rfl (amount_send m ρ c j 0) (amount_recv m ρ (c + j) j 0) (Osend c (j.val + 1)) rfl (W := W)
    (by rw [payload_send]; unfold rowPts; exact BI.Entails.refl _)
    (by
      rw [payload_recv]; unfold slotGot slotPts
      iintro H
      iexists _
      isplitr
      · ipureintro; exact landed m ρ c j fd
      · iexact H)) $$ [HO Ht1 Ht2 Hrow Hslot]
  · isplitr; · iapply (inv_send m ρ K c j); iexact HR
    isplitr; · iapply (inv_recv m ρ K (c + j) j); iexact HR
    isplitl [Hrow]; · unfold rowPts; iexact Hrow
    isplitl [Hslot]; · unfold slotPts; iexact Hslot
    isplitl [HO]; · iexact HO
    isplitl [Ht1]; · iexact Ht1
    isplitr; · iapply (reached_send m ρ K c j); iexact HR
    isplitl [Ht2]; · iexact Ht2
    iapply (reached_recv m ρ K (c + j) j); iexact HR
  iintro ⟨Hc, HO⟩
  iapply Hk
  isplitl [HO]; · iexists W; iexact HO
  isplitl [Hrest]; · iexact Hrest
  isplitl [Hc] <;> iassumption

/-! ## Receive waits and the accumulation -/

/-- Before receive wait `t`: the positions and credits of the waits left; the slots landed so far, their cells closed. -/
def RecvSt (t : ℕ) : sProp 𝕄 :=
  iprop((∃ W, owes (c : Thread nD τ) 0 W)
    ∗ (bigSep (rangeSet 16 t 16) fun i => iprop(atPos ER (recvCell c i) 0 ∅ 0 ∗ cred (tallyAt (recvCell c i) () N)))
    ∗ bigSep (rangeSet 16 1 t) fun i => iprop(slotGot m ρ c i ∗ semVal (recvCell c i) 0))

/-- The staged `w` of device `c`. -/
def wPts : sProp 𝕄 := ((c : Thread nD τ).loc cc0_stg1_0) ↦{fullShare} wstg m ρ c

theorem recv_core (hj : j ≠ 0) {sp : Space} {src : Memref sig .tc sp S128x128 .bf16} {hsrc : src.view.WordExact} {hdst : (slotM j).view.WordExact}
    (off : Fin 2 → Nat) (hoff : off = ![128 * (c - j).val, 0])
    {inb : ∀ a, off a + S128x2048.size a ≤ S2048x2048.size a}
    {hl : gM.view.LoadsAt (slotR j).toLoadRect} {hl' : wM.view.LoadsAt (Rect.unit (s := S2048x2048) off S128x2048.size inb).toLoadRect}
    {α : Type} {Q : α → sProp 𝕄} {k : Vec F S1x128x128 .bf16 → Vec F S128x2048 .f32 → Prog (TpuEff nD τ sig (Elt F) Λ₀ .tc) α} :
    iprop(records m ρ K ∗ RecvSt m ρ c j.val ∗ wPts m ρ c)
      ⊢ iprop(((RecvSt m ρ c (j.val + 1) ∗ wPts m ρ c) -∗ Run c (k (slotVal m ρ c j) (wblk m ρ c (c - j))) Q)
          -∗ Run c (.op (.waitDma2 (recvS j) src (slotM j) hsrc hdst) fun _ =>
              .op (.load gM (slotR j).toLoadRect hl) fun g => .op (.load wM (Rect.unit (s := S2048x2048) off S128x2048.size inb).toLoadRect hl') fun w => k g w) Q) := by
  subst hoff
  unfold RecvSt
  rw [bigSep_step, bigSep_done j hj]
  iintro ⟨#HR, ⟨⟨%W, HO⟩, ⟨⟨Hat, Hc⟩, Hrest⟩, Hdone⟩, Hw⟩ Hk
  iapply (Rounds.wp_wait_rest_token 𝒱₀ ER (rd m ρ) (c : Thread nD τ) none (κ := K (c, some (true, j)))
      (wpE_waitDma2_eq 𝒱₀ (c : Thread nD τ) none Set.univ) (Set.mem_univ _) () (O := 0) (W := W) (R := 0) (m := 0) (T := ∅)
      (by rw [Nat.zero_add, expect_recv m ρ c j hj])) $$ [Hc HO Hat]
  · isplitr; · iapply (inv_recv m ρ K c j); iexact HR
    isplitl [Hc]; · iexact Hc
    isplitl [HO]; · iexact HO
    isplitr; · rw [MayWait_zero]; iempintro
    iexact Hat
  iintro ⟨HO, Hat, -, Hpay⟩
  ihave Hp := (Entails.of_eq (rest_recv m ρ c j hj)) $$ Hpay
  ihave #HI := (inv_recv m ρ K c j) $$ HR
  imod (Rounds.cell_close ER (rd m ρ) (Set.mem_univ (K (c, some (true, j)))) (fun h => h) (R := 0 + 1) (duties_later m ρ (recvCell c j))) $$ [Hat] with Hz
  · isplitr; · iexact HI
    iexact Hat
  unfold slotGot slotPts wPts
  icases Hp with ⟨%f, %hf, Hslot⟩
  iapply (wp_load 𝒱₀ (c : Thread nD τ) none Set.univ (m := gM) (r := (slotR j).toLoadRect) (S := (slotM j).view.set) (f := f)
    (by rw [set_slot]; exact (Finset.map_refl (s := (slotR j).set)).subset)) $$ Hslot
  iintro Hslot
  iapply (wp_load 𝒱₀ (c : Thread nD τ) none Set.univ (m := wM) (Finset.subset_univ _)) $$ Hw
  iintro Hw
  rw [hf]
  iapply Hk
  isplitr [Hw]
  · isplitl [HO]; · iexists _; iexact HO
    isplitl [Hrest]; · iexact Hrest
    isplitl [Hslot Hz]
    · isplitl [Hslot]
      · iexists f; isplitr; · (ipureintro; exact hf)
        iexact Hslot
      · iexact Hz
    · iexact Hdone
  · iexact Hw

/-! ## The two accumulators -/

/-- The rectangle of the whole accumulator reads what the memref reads; -/
theorem read_full (M : Memref sig .tc .vmem S128x2048 .f32) (f : M.view.ty.Contents (Elt F)) :
    M.view.readAt (Elt F) fullR.toLoadRect f = M.view.read (Elt F) f := by
  have h : ∀ x : S128x2048.Idx, fullR.emb x = x := fun x => funext fun a => Fin.ext (by
    show (![0, 0] : Fin 2 → Nat) a + 1 * (x a : Nat) = x a
    fin_cases a <;> exact (Nat.zero_add _).trans (Nat.one_mul _))
  refine funext fun x => ?_
  show cast _ (f (M.view.emb (fullR.emb x))) = cast _ (f (M.view.emb x))
  rw [h]
/-- and a store over it leaves what was stored. -/
theorem read_write_full (M : Memref sig .tc .vmem S128x2048 .f32) (f : M.view.ty.Contents (Elt F)) (w : S128x2048.Idx → Elt F .f32) :
    M.view.read (Elt F) ((M.access fullR).write (Elt F) f w Finset.univ) = w :=
  (read_full M _).symm.trans (View.read_write_univ (v := M.access fullR) f w)

theorem acc_load (M : Memref sig .tc .vmem S128x2048 .f32) (X : Vec F S128x2048 .f32) {hl : M.view.LoadsAt fullR.toLoadRect}
    {α : Type} {Q : α → sProp 𝕄} {k : Vec F S128x2048 .f32 → Prog (TpuEff nD τ sig (Elt F) Λ₀ .tc) α} :
    owns (c : Thread nD τ) M fullShare X
      ⊢ iprop((owns (c : Thread nD τ) M fullShare X -∗ Run c (k X) Q) -∗ Run c (.op (.load M fullR.toLoadRect hl) k) Q) := by
  unfold owns
  iintro ⟨%f, %hf, H⟩ Hk
  subst hf
  iapply (wp_load 𝒱₀ (c : Thread nD τ) none Set.univ (m := M) (r := fullR.toLoadRect) (S := M.view.set) (f := f) (View.setOn_subset_set _ _)) $$ H
  iintro H
  rw [read_full]
  iapply Hk
  iexists f; isplitr; · (ipureintro; rfl)
  iexact H

theorem acc_store (M : Memref sig .tc .vmem S128x2048 .f32) (X w : Vec F S128x2048 .f32)
    {hx : (M.access fullR).Stores Finset.univ} {hm : Finset.univ = Finset.univ ∨ ∀ a, fullR.stride a = 1}
    {α : Type} {Q : α → sProp 𝕄} {k : PUnit → Prog (TpuEff nD τ sig (Elt F) Λ₀ .tc) α} :
    owns (c : Thread nD τ) M fullShare X
      ⊢ iprop((owns (c : Thread nD τ) M fullShare w -∗ Run c (k ⟨⟩) Q) -∗ Run c (.op (.store M fullR w Finset.univ hx hm) k) Q) := by
  unfold owns
  iintro ⟨%f, %hf, H⟩ Hk
  iapply (wp_store 𝒱₀ (c : Thread nD τ) none Set.univ (m := M) (r := fullR) (w := w) (Mk := Finset.univ) (S := M.view.set) (f := f)
    (View.set_slice_subset _ _)) $$ H
  iintro H
  iapply Hk
  iexists _; isplitr
  · ipureintro; exact read_write_full M f w
  iexact H

/-- A receive wait, the two loads, the accumulator read twice and stored back. -/
theorem acc_step (hj : j ≠ 0) {sp : Space} {src : Memref sig .tc sp S128x128 .bf16} {hsrc : src.view.WordExact} {hdst : (slotM j).view.WordExact}
    (off : Fin 2 → Nat) (hoff : off = ![128 * (c - j).val, 0])
    {inb : ∀ a, off a + S128x2048.size a ≤ S2048x2048.size a}
    {hl : gM.view.LoadsAt (slotR j).toLoadRect} {hl' : wM.view.LoadsAt (Rect.unit (s := S2048x2048) off S128x2048.size inb).toLoadRect}
    (M : Memref sig .tc .vmem S128x2048 .f32) (X : Vec F S128x2048 .f32) {hl₁ hl₂ : M.view.LoadsAt fullR.toLoadRect}
    (p : Vec F S1x128x128 .bf16 → Vec F S128x2048 .f32 → Vec F S128x2048 .f32 → Vec F S128x2048 .f32)
    {hx : (M.access fullR).Stores Finset.univ} {hm : Finset.univ = Finset.univ ∨ ∀ a, fullR.stride a = 1}
    {α : Type} {Q : α → sProp 𝕄} {k : PUnit → Prog (TpuEff nD τ sig (Elt F) Λ₀ .tc) α} :
    iprop(records m ρ K ∗ RecvSt m ρ c j.val ∗ wPts m ρ c ∗ owns (c : Thread nD τ) M fullShare X)
      ⊢ iprop(((RecvSt m ρ c (j.val + 1) ∗ wPts m ρ c ∗ owns (c : Thread nD τ) M fullShare (p (slotVal m ρ c j) (wblk m ρ c (c - j)) X)) -∗ Run c (k ⟨⟩) Q)
          -∗ Run c (.op (.waitDma2 (recvS j) src (slotM j) hsrc hdst) fun _ =>
              .op (.load gM (slotR j).toLoadRect hl) fun g => .op (.load wM (Rect.unit (s := S2048x2048) off S128x2048.size inb).toLoadRect hl') fun w =>
              .op (.load M fullR.toLoadRect hl₁) fun o => .op (.load M fullR.toLoadRect hl₂) fun _ => .op (.store M fullR (p g w o) Finset.univ hx hm) k) Q) := by
  iintro ⟨#HR, HS, Hw, HM⟩ Hk
  iapply (recv_core m ρ K c j hj off hoff) $$ [HS Hw]
  · isplitr; · iexact HR
    isplitl [HS] <;> iassumption
  iintro ⟨HS, Hw⟩
  iapply (acc_load c M X) $$ HM; iintro HM
  iapply (acc_load c M X) $$ HM; iintro HM
  iapply (acc_store c M X _) $$ HM; iintro HM
  iapply Hk
  isplitl [HS]; · iexact HS
  isplitl [Hw] <;> iassumption

/-! ## Send waits -/

omit [FloatOps F] in
/-- A transfer out of the rounded operand credits what one into a slot does. -/
theorem credit_row : (rowM 0).view.dmaCredit = N := by decide +kernel

def SwaitSt (t : ℕ) : sProp 𝕄 :=
  iprop((∃ W, owes (c : Thread nD τ) 0 W)
    ∗ (bigSep (rangeSet 16 t 16) fun i => iprop(atPos ER (sendCell c i) 0 ∅ 0 ∗ cred (tallyAt (sendCell c i) () N)))
    ∗ bigSep (rangeSet 16 1 t) fun i => iprop(rowPts m ρ c (c + i) ∗ semVal (sendCell c i) 0))

theorem swait_step (hj : j ≠ 0) {sp : Space} {src : Memref sig .tc sp S128x128 .bf16} {hsrc : src.view.WordExact}
    {off : Fin 2 → Nat} {inb : ∀ a, off a + S128x128.size a ≤ S2048x128.size a} {hs : ∀ a, (Rect.unit (s := S2048x128) off S128x128.size inb).stride a = 1}
    {hdst : (bM.slice (Rect.unit (s := S2048x128) off S128x128.size inb) hs).view.WordExact}
    {α : Type} {Q : α → sProp 𝕄} {k : PUnit → Prog (TpuEff nD τ sig (Elt F) Λ₀ .tc) α} :
    iprop(records m ρ K ∗ SwaitSt m ρ c j.val)
      ⊢ iprop((SwaitSt m ρ c (j.val + 1) -∗ Run c (k ⟨⟩) Q)
          -∗ Run c (.op (.waitDma2 (sendS j) src (bM.slice (Rect.unit (s := S2048x128) off S128x128.size inb) hs) hsrc hdst) k) Q) := by
  unfold SwaitSt
  rw [bigSep_step, bigSep_done j hj]
  iintro ⟨#HR, ⟨%W, HO⟩, ⟨⟨Hat, Hc⟩, Hrest⟩, Hdone⟩ Hk
  iapply (Rounds.wp_wait_rest_token 𝒱₀ ER (rd m ρ) (c : Thread nD τ) none (κ := K (c, some (false, j)))
      (wpE_waitDma2_eq 𝒱₀ (c : Thread nD τ) none Set.univ) (Set.mem_univ _) () (O := 0) (W := W) (R := 0) (m := 0) (T := ∅)
      (by rw [Nat.zero_add, expect_send m ρ c j hj]; exact credit_row)) $$ [Hc HO Hat]
  · isplitr; · iapply (inv_send m ρ K c j); iexact HR
    isplitl [Hc]; · iexact Hc
    isplitl [HO]; · iexact HO
    isplitr; · rw [MayWait_zero]; iempintro
    iexact Hat
  iintro ⟨HO, Hat, -, Hpay⟩
  ihave Hp := (Entails.of_eq (rest_send m ρ c j hj)) $$ Hpay
  ihave #HI := (inv_send m ρ K c j) $$ HR
  imod (Rounds.cell_close ER (rd m ρ) (Set.mem_univ (K (c, some (false, j)))) (fun h => h) (R := 0 + 1) (duties_later m ρ (sendCell c j))) $$ [Hat] with Hz
  · isplitr; · iexact HI
    iexact Hat
  iapply Hk
  isplitl [HO]; · iexists _; iexact HO
  isplitl [Hrest]; · iexact Hrest
  isplitl [Hp Hz]
  · isplitl [Hp] <;> iassumption
  · iexact Hdone

end Steps

end Cert.AllToAll

end
-- ==== Proof.Body.lean ====
/-
# The body on one device

From its operands, its scratch buffers, its positions and its tokens, device `c` runs the whole exchange and ends with
the result in its staged window, its scratch buffers whole again and every semaphore at zero. Each step of the exchange
is one application of the step lemmas.
-/
module

public import proofs.«01_k».proof.Proof.Steps

@[expose] public section

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (rangeSet mem_rangeSet)

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ) (c : Dev nD)

/-! ## The printed offsets -/

theorem off2_at (j : Fin 16) (hj : j ≠ 0) : k0_off2 c (BitVec.ofNat 32 j.val) = ![128 * (c + j).val, 0] := by
  have h0 : j.val ≠ 0 := fun h => hj (Fin.ext h)
  have hlt := j.isLt
  have h := k0_off2_eq c ⟨j.val - 1, by omega⟩
  have e1 : 1 + (j.val - 1) = j.val := by omega
  have e2 : c.val + (j.val - 1) + 1 = c.val + j.val := by omega
  dsimp only at h
  rw [e1, e2] at h
  exact h
theorem off4_at (j : Fin 16) (hj : j ≠ 0) : k0_off4 c (BitVec.ofNat 32 j.val) = ![128 * (c - j).val, 0] := by
  have h0 : j.val ≠ 0 := fun h => hj (Fin.ext h)
  have hlt := j.isLt
  have h := k0_off4_eq c ⟨j.val - 1, by omega⟩
  have e1 : 1 + (j.val - 1) = j.val := by omega
  have e2 : c.val + 15 - (j.val - 1) = 16 - j.val + c.val := by omega
  dsimp only at h
  rw [e1, e2] at h
  exact h

/-! ## The result -/

/-- One even step on the accumulator `X`, and one odd step on the other. -/
def evenStep (X : Vec F S128x2048 .f32) (j : Fin 16) : Vec F S128x2048 .f32 := k0_pay7 (slotVal m ρ c j) (wblk m ρ c (c - j)) X
def oddStep (X : Vec F S128x2048 .f32) (j : Fin 16) : Vec F S128x2048 .f32 := k0_pay8 (slotVal m ρ c j) (wblk m ρ c (c - j)) X

/-- The sum over the even slots, in the order the kernel adds; -/
def evenAcc : Vec F S128x2048 .f32 :=
  List.foldl (evenStep m ρ c) (k0_pay4 (slotVal m ρ c 0) (wblk m ρ c (c - 0))) [2, 4, 6, 8, 10, 12, 14]
/-- over the odd slots; -/
def oddAcc : Vec F S128x2048 .f32 :=
  List.foldl (oddStep m ρ c) (k0_pay6 (k0_pay5 (slotVal m ρ c 1) (wblk m ρ c (c - 1)))) [3, 5, 7, 9, 11, 13, 15]
/-- and the block of the result device `c` computes. -/
def res : Vec F S128x2048 .f32 := k0_pay1 (k0_pay24 (evenAcc m ρ c)) (oddAcc m ρ c)

/-! ## Cutting up the buffers -/

omit [FloatOps F] in
theorem all_steps (Φ : Fin 16 → sProp 𝕄) : bigSep Finset.univ Φ = iprop(Φ 0 ∗ bigSep (rangeSet 16 1 16) Φ) := by
  rw [← Ring.rangeSet_univ]; exact bigSep_step 0 Φ

theorem slots_disjoint (j j' : Fin 16) (h : j ≠ j') : Disjoint (slotR j).set (slotR j').set :=
  Ring.lead_disjoint (s := S16x128x128) 0 1 (fun j : Fin 16 => ![j.val, 0, 0]) S1x128x128.size slot_inb (fun j => (Nat.one_mul _).symm) rfl j j' h
theorem slots_cover : Finset.univ.biUnion (fun j : Fin 16 => (slotR j).set) = Finset.univ :=
  Ring.lead_cover (s := S16x128x128) 0 1 (fun j : Fin 16 => ![j.val, 0, 0]) S1x128x128.size slot_inb (fun j => (Nat.one_mul _).symm)
    (fun j a h => by fin_cases a <;> first | exact absurd rfl h | rfl) rfl (fun a h => by fin_cases a <;> first | exact absurd rfl h | rfl) rfl
theorem rows_disjoint (d d' : Fin 16) (h : d ≠ d') : Disjoint (rowR d).set (rowR d').set :=
  Ring.lead_disjoint (s := S2048x128) 0 128 (fun d : Fin 16 => ![128 * d.val, 0]) S128x128.size row_inb (fun _ => rfl) rfl d d' h
theorem rows_cover : Finset.univ.biUnion (fun d : Fin 16 => (rowR d).set) = Finset.univ :=
  Ring.lead_cover (s := S2048x128) 0 128 (fun d : Fin 16 => ![128 * d.val, 0]) S128x128.size row_inb (fun _ => rfl)
    (fun j a h => by fin_cases a <;> first | exact absurd rfl h | rfl) rfl (fun a h => by fin_cases a <;> first | exact absurd rfl h | rfl) rfl

omit [FloatOps F] in
/-- A whole landing buffer is its sixteen slots; -/
theorem slots_eq (g : Buf (Elt F) ((c : Thread nD τ).loc cc0_scratch1)) :
    (((c : Thread nD τ).loc cc0_scratch1) ↦{fullShare} g : sProp 𝕄) = bigSep Finset.univ fun j => slotPts c j g :=
  (Ring.pointsTo_blocks (fun j : Fin 16 => (slotR j).set) slots_disjoint slots_cover g).trans
    (bigSep_congr fun j _ => by unfold slotPts; rw [set_slot])
omit [FloatOps F] in
/-- slots at contents of their own join to a buffer at some contents; -/
theorem slots_join (f₀ : Buf (Elt F) ((c : Thread nD τ).loc cc0_scratch1)) :
    (bigSep Finset.univ fun j => iprop(∃ f, slotPts (F := F) c j f) : sProp 𝕄)
      ⊢ iprop(∃ g, ((c : Thread nD τ).loc cc0_scratch1) ↦{fullShare} g) :=
  (Entails.of_eq (bigSep_congr fun j _ => by unfold slotPts; rw [set_slot])).trans
    (Ring.pointsTo_blocks_join_exists (fun j : Fin 16 => (slotR j).set) slots_disjoint slots_cover f₀)
/-- Turning a step round. -/
def negE : Fin 16 ≃ Fin 16 := ⟨fun j => -j, fun j => -j, by decide, by decide⟩
omit [FloatOps F] in
/-- handed out in the order of the signals, slot `0` first. -/
theorem slots_dealt (g : Buf (Elt F) ((c : Thread nD τ).loc cc0_scratch1)) :
    (((c : Thread nD τ).loc cc0_scratch1) ↦{fullShare} g : sProp 𝕄)
      ⊢ iprop(slotPts c 0 g ∗ bigSep (rangeSet 16 1 16) fun i => iprop(∃ f, slotPts (F := F) c (-i) f)) := by
  rw [slots_eq, bigSep_univ_equiv negE (fun j => (slotPts c j g : sProp 𝕄)), all_steps]
  refine sep_mono (Entails.of_eq rfl) (bigSep_mono fun i _ => ?_)
  show (slotPts c (-i) g : sProp 𝕄) ⊢ iprop(∃ f, slotPts (F := F) c (-i) f)
  iintro H; iexists g; iexact H

def rowSets : Fin 16 → Finset S2048x128.Idx := fun d => (rowR d).set
theorem rowSets_disjoint : ∀ d d' : Fin 16, d ≠ d' → Disjoint (rowSets d) (rowSets d') := rows_disjoint
theorem rowSets_cover : Finset.univ.biUnion rowSets = Finset.univ := rows_cover

omit [FloatOps F] in
theorem rows_cut (f : Buf (Elt F) ((c : Thread nD τ).loc cc0_scratch0)) :
    (((c : Thread nD τ).loc cc0_scratch0) ↦{fullShare} f : sProp 𝕄)
      = bigSep Finset.univ fun d : Fin 16 => iprop(((c : Thread nD τ).loc cc0_scratch0) ↦[rowSets d]{fullShare} f) :=
  Ring.pointsTo_blocks (ℓ := (c : Thread nD τ).loc cc0_scratch0) (q := fullShare) rowSets rowSets_disjoint rowSets_cover f

/-- Adding `c`. -/
def addE : Fin 16 ≃ Fin 16 := ⟨fun i => c + i, fun i => i - c, by revert c; decide, by revert c; decide⟩
theorem addE_zero : addE c 0 = c := by revert c; decide

theorem rowPts_eq (d : Fin 16) : (rowPts m ρ c d : sProp 𝕄) = iprop(((c : Thread nD τ).loc cc0_scratch0) ↦[rowSets d]{fullShare} xb m ρ c) := by
  unfold rowPts rowSets; rw [set_row]

/-- The rounded operand is its sixteen blocks of rows, that of device `c` itself first. -/
theorem rows_eq :
    (((c : Thread nD τ).loc cc0_scratch0) ↦{fullShare} xb m ρ c : sProp 𝕄)
      = iprop(rowPts m ρ c c ∗ bigSep (rangeSet 16 1 16) fun i => rowPts m ρ c (c + i)) := by
  rw [rows_cut, ← bigSep_congr fun d _ => rowPts_eq m ρ c d,
    bigSep_univ_equiv (addE c) (fun d : Fin 16 => (rowPts m ρ c d : sProp 𝕄)), all_steps, addE_zero]
  rfl

/-! ## Between the phases -/

omit [FloatOps F] in
theorem sig_init :
    (iprop((∃ W, owes (c : Thread nD τ) (Osig c 1) W) ∗ (bigSep (rangeSet 16 1 16) fun i => dutyTok ER (barCell (c + i)) 0 (-i))
        ∗ bigSep (rangeSet 16 1 16) fun i => iprop(∃ f, slotPts (F := F) c (-i) f)) : sProp 𝕄) ⊢ SigSt c 1 := by
  unfold SigSt
  rw [bigSep_sep']

theorem send_init :
    (iprop((∃ W, owes (c : Thread nD τ) (Osend c 1) W) ∗ (bigSep (rangeSet 16 1 16) fun i => dutyTok ER (sendCell c i) 0 0)
        ∗ (bigSep (rangeSet 16 1 16) fun i => dutyTok ER (recvCell (c + i) i) 0 0)
        ∗ (bigSep (rangeSet 16 1 16) fun i => rowPts m ρ c (c + i))
        ∗ bigSep (rangeSet 16 1 16) fun i => barPay (F := F) c i) : sProp 𝕄) ⊢ SendSt m ρ c 1 := by
  unfold SendSt barPay
  rw [bigSep_sep', bigSep_sep', bigSep_sep', Ring.bigSep_rangeSet_empty le_rfl]
  iintro ⟨H1, H2⟩
  isplitl [H1]; · iexact H1
  isplitl [H2]; · iexact H2
  iempintro

theorem recv_init :
    (iprop((∃ W, owes (c : Thread nD τ) 0 W) ∗ (bigSep (rangeSet 16 1 16) fun i => atPos ER (recvCell c i) 0 ∅ 0)
        ∗ bigSep (rangeSet 16 1 16) fun i => cred (tallyAt (recvCell c i) () N)) : sProp 𝕄) ⊢ RecvSt m ρ c 1 := by
  unfold RecvSt
  rw [bigSep_sep', Ring.bigSep_rangeSet_empty le_rfl]
  iintro ⟨H1, H2⟩
  isplitl [H1]; · iexact H1
  isplitl [H2]; · iexact H2
  iempintro

theorem swait_init :
    (iprop((∃ W, owes (c : Thread nD τ) 0 W) ∗ (bigSep (rangeSet 16 1 16) fun i => atPos ER (sendCell c i) 0 ∅ 0)
        ∗ bigSep (rangeSet 16 1 16) fun i => cred (tallyAt (sendCell c i) () N)) : sProp 𝕄) ⊢ SwaitSt m ρ c 1 := by
  unfold SwaitSt
  rw [bigSep_sep', Ring.bigSep_rangeSet_empty le_rfl]
  iintro ⟨H1, H2⟩
  isplitl [H1]; · iexact H1
  isplitl [H2]; · iexact H2
  iempintro

omit [FloatOps F] in
theorem sig_end : (SigSt (F := F) c 16 : sProp 𝕄) ⊢ iprop(∃ W, owes (c : Thread nD τ) (Osend c 1) W) := by
  unfold SigSt; rw [Osig_end]; iintro ⟨H, -⟩; iexact H
theorem send_end : (SendSt m ρ c 16 : sProp 𝕄)
    ⊢ iprop((∃ W, owes (c : Thread nD τ) 0 W) ∗ bigSep (rangeSet 16 1 16) fun i => cred (tallyAt (sendCell c i) () N)) := by
  unfold SendSt; rw [Osend_end]; iintro ⟨H, -, H'⟩
  isplitl [H] <;> iassumption
theorem recv_end : (RecvSt m ρ c 16 : sProp 𝕄)
    ⊢ iprop((∃ W, owes (c : Thread nD τ) 0 W) ∗ (bigSep (rangeSet 16 1 16) fun i => slotGot m ρ c i)
        ∗ bigSep (rangeSet 16 1 16) fun i => semVal (recvCell c i) 0) := by
  unfold RecvSt; rw [bigSep_sep' (rangeSet 16 1 16) (fun i => slotGot m ρ c i)]; iintro ⟨H, -, H'⟩
  isplitl [H] <;> iassumption
theorem swait_end : (SwaitSt m ρ c 16 : sProp 𝕄)
    ⊢ iprop((∃ W, owes (c : Thread nD τ) 0 W) ∗ (bigSep (rangeSet 16 1 16) fun i => rowPts m ρ c (c + i))
        ∗ bigSep (rangeSet 16 1 16) fun i => semVal (sendCell c i) 0) := by
  unfold SwaitSt; rw [bigSep_sep' (rangeSet 16 1 16) (fun i => rowPts m ρ c (c + i))]; iintro ⟨H, -, H'⟩
  isplitl [H] <;> iassumption

/-! ## The steps outside the exchange -/

abbrev fullB : Rect S2048x128 := Rect.unit (s := S2048x128) ![0, 0] S2048x128.size inb_S2048x128_S2048x128_0_0

theorem zero_off : (![0, 0] : Fin 2 → Nat) = fun _ => 0 := by decide

/-- The operand read, rounded and stored. -/
theorem round_step (fb : Buf (Elt F) ((c : Thread nD τ).loc cc0_scratch0)) {hl : xM.view.LoadsAt fullB.toLoadRect} {hl' : bM.view.LoadsAt fullB.toLoadRect}
    {hx : (bM.access fullB).Stores Finset.univ} {hm : Finset.univ = Finset.univ ∨ ∀ a, fullB.stride a = 1}
    {α : Type} {Q : α → sProp 𝕄} {k : PUnit → Prog (TpuEff nD τ sig (Elt F) Λ₀ .tc) α} :
    iprop((((c : Thread nD τ).loc cc0_stg0_0) ↦{fullShare} xstg m ρ c) ∗ (((c : Thread nD τ).loc cc0_scratch0) ↦{fullShare} fb))
      ⊢ iprop(((((c : Thread nD τ).loc cc0_stg0_0) ↦{fullShare} xstg m ρ c) ∗ (((c : Thread nD τ).loc cc0_scratch0) ↦{fullShare} xb m ρ c)
            -∗ Run c (k ⟨⟩) Q)
          -∗ Run c (.op (.load xM fullB.toLoadRect hl) fun v => .op (.load bM fullB.toLoadRect hl') fun _ =>
              .op (.store bM fullB (k0_pay2 v) Finset.univ hx hm) k) Q) := by
  have hr : xM.view.readAt (Elt F) fullB.toLoadRect (xstg m ρ c) = xstg m ρ c := Memref.readAt_unit_zero (Elt F) cc0_stg0_0 zero_off _ _
  have hw : ∀ w : (cc0_scratch0 : Ref sig .tc).ty.Contents (Elt F), (bM.access fullB).write (Elt F) fb w Finset.univ = w :=
    fun w => Memref.write_access_unit_zero_univ (Elt F) cc0_scratch0 zero_off _ fb w
  iintro ⟨Hx, Hb⟩ Hk
  iapply (wp_load 𝒱₀ (c : Thread nD τ) none Set.univ (m := xM) (Finset.subset_univ _)) $$ Hx; iintro Hx
  iapply (wp_load 𝒱₀ (c : Thread nD τ) none Set.univ (m := bM) (Finset.subset_univ _)) $$ Hb; iintro Hb
  iapply (wp_store 𝒱₀ (c : Thread nD τ) none Set.univ (m := bM) (r := fullB) (Mk := Finset.univ) (Finset.subset_univ _)) $$ Hb; iintro Hb
  rw [hr, hw]
  iapply Hk
  isplitl [Hx]; · iexact Hx
  iexact Hb

/-- The wait at the barrier: every other device is there, and the slots to write come with it. -/
theorem bar_step {α : Type} {Q : α → sProp 𝕄} {k : PUnit → Prog (TpuEff nD τ sig (Elt F) Λ₀ .tc) α} :
    iprop(records m ρ K ∗ levAts L lv ∗ (∃ W, owes (c : Thread nD τ) (Osend c 1) W) ∗ atPos ER (barCell c) 0 ∅ 0 ∗ cred (tallyAt (barCell c) () 15))
      ⊢ iprop(((∃ W, owes (c : Thread nD τ) (Osend c 1) W) ∗ semVal (barCell c) 0 ∗ (bigSep (rangeSet 16 1 16) fun d => barPay c d) -∗ Run c (k ⟨⟩) Q)
          -∗ Run c (.op (.semWait barS (15#32).toInt) k) Q) := by
  iintro ⟨#HR, #Hlev, ⟨%W, HO⟩, Hat, Hc⟩ Hk
  iapply (Rounds.wp_wait_rest_token 𝒱₀ ER (rd m ρ) (c : Thread nD τ) none (κ := K (c, none))
      (wpE_semWait_eq 𝒱₀ (c : Thread nD τ) none Set.univ) (Set.mem_univ _) () (O := Osend c 1) (W := W) (R := 0) (m := 0) (T := ∅)
      (by rw [expect_bar]; decide)) $$ [Hc HO Hat]
  · isplitr; · iapply (inv_bar m ρ K c); iexact HR
    isplitl [Hc]; · iexact Hc
    isplitl [HO]; · iexact HO
    isplitr; · iapply (mayWait_bar (F := F) c); iexact Hlev
    iexact Hat
  iintro ⟨HO, Hat, -, Hpay⟩
  ihave Hp := (Entails.of_eq (rest_bar m ρ c)) $$ Hpay
  ihave #HI := (inv_bar m ρ K c) $$ HR
  imod (Rounds.cell_close ER (rd m ρ) (Set.mem_univ (K (c, none))) (fun h => h) (R := 0 + 1) (duties_later m ρ (barCell c))) $$ [Hat] with Hz
  · isplitr; · iexact HI
    iexact Hat
  iapply Hk
  isplitl [HO]; · iexists _; iexact HO
  isplitl [Hz] <;> iassumption

theorem less_zero : c - 0 = c := by revert c; decide

theorem slotVal_zero : slotVal m ρ c 0 = k0_pay3 (bM.view.readAt (Elt F) (rowR c).toLoadRect (xb m ρ c)) := by
  have h0 : c - 0 = c := less_zero c
  unfold slotVal blk; rw [h0]; rfl

/-- The device's own block of rows copied into slot `0`. -/
theorem own_step (fg : Buf (Elt F) ((slotM 0).view.loc (c : Thread nD τ))) (off : Fin 2 → Nat) (hoff : off = ![128 * c.val, 0])
    {inb : ∀ a, off a + S128x128.size a ≤ S2048x128.size a} {hl : bM.view.LoadsAt (Rect.unit (s := S2048x128) off S128x128.size inb).toLoadRect}
    {hl' : gM.view.LoadsAt (slotR 0).toLoadRect} {hx : (gM.access (slotR 0)).Stores Finset.univ} {hm : Finset.univ = Finset.univ ∨ ∀ a, (slotR 0).stride a = 1}
    {α : Type} {Q : α → sProp 𝕄} {k : PUnit → Prog (TpuEff nD τ sig (Elt F) Λ₀ .tc) α} :
    iprop((((c : Thread nD τ).loc cc0_scratch0) ↦{fullShare} xb m ρ c) ∗ slotPts c 0 fg)
      ⊢ iprop(((((c : Thread nD τ).loc cc0_scratch0) ↦{fullShare} xb m ρ c) ∗ slotGot m ρ c 0 -∗ Run c (k ⟨⟩) Q)
          -∗ Run c (.op (.load bM (Rect.unit (s := S2048x128) off S128x128.size inb).toLoadRect hl) fun v =>
              .op (.load gM (slotR 0).toLoadRect hl') fun _ => .op (.store gM (slotR 0) (k0_pay3 v) Finset.univ hx hm) k) Q) := by
  subst hoff
  unfold slotGot slotPts
  iintro ⟨Hb, Hs⟩ Hk
  iapply (wp_load 𝒱₀ (c : Thread nD τ) none Set.univ (m := bM) (Finset.subset_univ _)) $$ Hb; iintro Hb
  iapply (wp_load 𝒱₀ (c : Thread nD τ) none Set.univ (m := gM) (r := (slotR 0).toLoadRect) (S := (slotM 0).view.set) (f := fg)
    (by rw [set_slot]; exact (Finset.map_refl (s := (slotR 0).set)).subset)) $$ Hs; iintro Hs
  iapply (wp_store 𝒱₀ (c : Thread nD τ) none Set.univ (m := gM) (r := slotR 0) (Mk := Finset.univ) (S := (slotM 0).view.set) (f := fg)
    (by rw [set_slot]; exact (View.set_slice_whole _ _).subset)) $$ Hs; iintro Hs
  iapply Hk
  isplitl [Hb]; · iexact Hb
  iexists _; isplitr
  · ipureintro; rw [slotVal_zero]; exact View.read_write_univ (v := gM.access (slotR 0)) fg _
  iexact Hs

/-- Its product with the matching block of rows of `w` starts the accumulator. -/
theorem first_step (off : Fin 2 → Nat) (hoff : off = ![128 * (c - 0).val, 0]) (X : Vec F S128x2048 .f32)
    {inb : ∀ a, off a + S128x2048.size a ≤ S2048x2048.size a}
    {hl : gM.view.LoadsAt (slotR 0).toLoadRect} {hl' : wM.view.LoadsAt (Rect.unit (s := S2048x2048) off S128x2048.size inb).toLoadRect}
    {hl₁ : oM.view.LoadsAt fullR.toLoadRect} {hx : (oM.access fullR).Stores Finset.univ} {hm : Finset.univ = Finset.univ ∨ ∀ a, fullR.stride a = 1}
    {α : Type} {Q : α → sProp 𝕄} {k : PUnit → Prog (TpuEff nD τ sig (Elt F) Λ₀ .tc) α} :
    iprop(slotGot m ρ c 0 ∗ wPts m ρ c ∗ owns (c : Thread nD τ) oM fullShare X)
      ⊢ iprop((slotGot m ρ c 0 ∗ wPts m ρ c ∗ owns (c : Thread nD τ) oM fullShare (k0_pay4 (slotVal m ρ c 0) (wblk m ρ c (c - 0))) -∗ Run c (k ⟨⟩) Q)
          -∗ Run c (.op (.load gM (slotR 0).toLoadRect hl) fun g => .op (.load wM (Rect.unit (s := S2048x2048) off S128x2048.size inb).toLoadRect hl') fun w =>
              .op (.load oM fullR.toLoadRect hl₁) fun _ => .op (.store oM fullR (k0_pay4 g w) Finset.univ hx hm) k) Q) := by
  subst hoff
  unfold slotGot slotPts wPts
  iintro ⟨⟨%f, %hf, Hs⟩, Hw, Ho⟩ Hk
  iapply (wp_load 𝒱₀ (c : Thread nD τ) none Set.univ (m := gM) (r := (slotR 0).toLoadRect) (S := (slotM 0).view.set) (f := f)
    (by rw [set_slot]; exact (Finset.map_refl (s := (slotR 0).set)).subset)) $$ Hs; iintro Hs
  iapply (wp_load 𝒱₀ (c : Thread nD τ) none Set.univ (m := wM) (Finset.subset_univ _)) $$ Hw; iintro Hw
  iapply (acc_load c oM X) $$ Ho; iintro Ho
  iapply (acc_store c oM X _) $$ Ho; iintro Ho
  rw [hf]
  iapply Hk
  isplitl [Hs]
  · iexists f; isplitr; · (ipureintro; exact hf)
    iexact Hs
  isplitl [Hw]; · iexact Hw
  iexact Ho

omit [FloatOps F] in
theorem owns_of_some (b : Ref sig .tc) (f : Buf (Elt F) ((c : Thread nD τ).loc b)) :
    (((c : Thread nD τ).loc b) ↦{fullShare} f : sProp 𝕄) ⊢ owns (c : Thread nD τ) (Memref.whole b) fullShare f := by
  unfold owns; simp only [Memref.view_whole, View.read_whole, View.set_whole]
  iintro H; iexists f; isplitr; · (ipureintro; rfl)
  iexact H
omit [FloatOps F] in
theorem some_of_owns (b : Ref sig .tc) (X : b.ty.Contents (Elt F)) :
    (owns (c : Thread nD τ) (Memref.whole b) fullShare X : sProp 𝕄) ⊢ iprop(∃ f, ((c : Thread nD τ).loc b) ↦{fullShare} f) := by
  unfold owns; simp only [Memref.view_whole, View.read_whole, View.set_whole]
  iintro ⟨%f, -, H⟩; iexists f; iexact H

/-! ## The body -/

/-- What device `c` brings to the exchange besides its buffers: its positions, the tokens of the duties it pays, the
    credits it was dealt. -/
def held : sProp 𝕄 :=
  iprop(levAts L lv
    ∗ (atPos ER (barCell c) 0 ∅ 0 ∗ (bigSep Finset.univ fun i => atPos ER (sendCell c i) 0 ∅ 0) ∗ bigSep Finset.univ fun i => atPos ER (recvCell c i) 0 ∅ 0)
    ∗ ((bigSep (rangeSet 16 1 16) fun i => dutyTok ER (barCell (c + i)) 0 (-i))
      ∗ (bigSep (rangeSet 16 1 16) fun i => dutyTok ER (sendCell c i) 0 0)
      ∗ bigSep (rangeSet 16 1 16) fun i => dutyTok ER (recvCell (c + i) i) 0 0)
    ∗ cred (tallyAt (barCell c) () 15) ∗ bigSep (rangeSet 16 1 16) fun i => cred (tallyAt (recvCell c i) () N))

/-- What it leaves of them: every semaphore at zero. -/
def zeros : sProp 𝕄 :=
  iprop(semVal (barCell c) 0 ∗ (bigSep Finset.univ fun i => semVal (sendCell c i) 0) ∗ bigSep Finset.univ fun i => semVal (recvCell c i) 0)

/-- Buffer `b` of device `c` at some contents. -/
def some_ (b : Ref sig .tc) : sProp 𝕄 := iprop(∃ f, ((c : Thread nD τ).loc b) ↦{fullShare} f)

theorem slot_forget (j : Fin 16) : (slotGot m ρ c j : sProp 𝕄) ⊢ iprop(∃ f, slotPts (F := F) c j f) := by
  unfold slotGot
  iintro ⟨%f, -, H⟩
  iexists f; iexact H

set_option maxHeartbeats 4000000 in
theorem sound_body (Kt : PUnit → sProp 𝕄) :
    iprop(records m ρ K ∗ held c ∗ (∃ W, owes (c : Thread nD τ) (Osig c 1) W)
        ∗ ((((c : Thread nD τ).loc cc0_stg0_0) ↦{fullShare} xstg m ρ c) ∗ wPts m ρ c ∗ some_ c cc0_stg2_0)
        ∗ some_ c cc0_scratch0 ∗ some_ c cc0_scratch1 ∗ some_ c cc0_scratch2)
      ⊢ iprop((zeros (F := F) c ∗ (∃ W, owes (c : Thread nD τ) 0 W)
        ∗ ((((c : Thread nD τ).loc cc0_stg0_0) ↦{fullShare} xstg m ρ c) ∗ wPts m ρ c ∗ owns (c : Thread nD τ) oM fullShare (res m ρ c))
        ∗ some_ c cc0_scratch0 ∗ some_ c cc0_scratch1 ∗ some_ c cc0_scratch2 -∗ Kt ⟨⟩)
        -∗ Run c (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            (Memref.whole cc0_scratch1) (Memref.isWhole_whole _) (Memref.whole cc0_scratch2) (Memref.isWhole_whole _) cc0_scratch3 cc0_scratch4) Kt) := by
  unfold Run
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel
  simp only [semSignalWord, semWaitWord, Prog.lift, Prog.bind_op, Prog.bind_ret, Prog.pure_eq_ret, wp_deviceId]
  unfold held some_
  iintro ⟨#HR, ⟨#Hlev, ⟨HaB, HaS, HaV⟩, ⟨HtB, HtS, HtV⟩, HcB, HcV⟩, HO, ⟨Hx, Hw, ⟨%fo, Ho⟩⟩, ⟨%fb, Hb⟩, ⟨%fg, Hg⟩, ⟨%fa, Ha⟩⟩ Hk
  -- round the operand
  iapply (round_step m ρ c fb) $$ [Hx Hb]
  · isplitl [Hx] <;> iassumption
  iintro ⟨Hx, Hb⟩
  -- hand every other device the slot it writes
  ihave Hg' := (slots_dealt (F := F) c fg) $$ Hg
  icases Hg' with ⟨Hs0, Hg⟩
  ihave HS := (sig_init (F := F) c) $$ [HO HtB Hg]
  · isplitl [HO]; · iexact HO
    isplitl [HtB] <;> iassumption
  iapply (signal_step m ρ K c 1 (by decide) _ (Fin.ext (k0_dev1_eq c))) $$ [HS]
  · isplitr; · iexact HR
    iexact HS
  iintro HS
  iapply (signal_step m ρ K c 2 (by decide) _ (Fin.ext (k0_dev2_eq c))) $$ [HS]
  · isplitr; · iexact HR
    iexact HS
  iintro HS
  iapply (signal_step m ρ K c 3 (by decide) _ (Fin.ext (k0_dev3_eq c))) $$ [HS]
  · isplitr; · iexact HR
    iexact HS
  iintro HS
  iapply (signal_step m ρ K c 4 (by decide) _ (Fin.ext (k0_dev4_eq c))) $$ [HS]
  · isplitr; · iexact HR
    iexact HS
  iintro HS
  iapply (signal_step m ρ K c 5 (by decide) _ (Fin.ext (k0_dev5_eq c))) $$ [HS]
  · isplitr; · iexact HR
    iexact HS
  iintro HS
  iapply (signal_step m ρ K c 6 (by decide) _ (Fin.ext (k0_dev6_eq c))) $$ [HS]
  · isplitr; · iexact HR
    iexact HS
  iintro HS
  iapply (signal_step m ρ K c 7 (by decide) _ (Fin.ext (k0_dev7_eq c))) $$ [HS]
  · isplitr; · iexact HR
    iexact HS
  iintro HS
  iapply (signal_step m ρ K c 8 (by decide) _ (Fin.ext (k0_dev8_eq c))) $$ [HS]
  · isplitr; · iexact HR
    iexact HS
  iintro HS
  iapply (signal_step m ρ K c 9 (by decide) _ (Fin.ext (k0_dev9_eq c))) $$ [HS]
  · isplitr; · iexact HR
    iexact HS
  iintro HS
  iapply (signal_step m ρ K c 10 (by decide) _ (Fin.ext (k0_dev10_eq c))) $$ [HS]
  · isplitr; · iexact HR
    iexact HS
  iintro HS
  iapply (signal_step m ρ K c 11 (by decide) _ (Fin.ext (k0_dev11_eq c))) $$ [HS]
  · isplitr; · iexact HR
    iexact HS
  iintro HS
  iapply (signal_step m ρ K c 12 (by decide) _ (Fin.ext (k0_dev12_eq c))) $$ [HS]
  · isplitr; · iexact HR
    iexact HS
  iintro HS
  iapply (signal_step m ρ K c 13 (by decide) _ (Fin.ext (k0_dev13_eq c))) $$ [HS]
  · isplitr; · iexact HR
    iexact HS
  iintro HS
  iapply (signal_step m ρ K c 14 (by decide) _ (Fin.ext (k0_dev14_eq c))) $$ [HS]
  · isplitr; · iexact HR
    iexact HS
  iintro HS
  iapply (signal_step m ρ K c 15 (by decide) _ (Fin.ext (k0_dev15_eq c))) $$ [HS]
  · isplitr; · iexact HR
    iexact HS
  iintro HS
  ihave HO := (show (SigSt (F := F) c ((15 : Fin 16).val + 1) : sProp 𝕄) ⊢ _ from sig_end (F := F) c) $$ HS
  iapply (bar_step m ρ K c) $$ [HO HaB HcB]
  · isplitr; · iexact HR
    isplitr; · iexact Hlev
    isplitl [HO]; · iexact HO
    isplitl [HaB] <;> iassumption
  iintro ⟨HO, HzB, Hslots⟩
  -- the device's own block, then a transfer to every other device
  have hc0 : c - 0 = c := less_zero c
  iapply (own_step m ρ c fg _ (k0_off1_eq c)) $$ [Hb Hs0]
  · isplitl [Hb] <;> iassumption
  iintro ⟨Hb, Hs0⟩
  ihave Hb' := (Entails.of_eq (rows_eq m ρ c)) $$ Hb
  icases Hb' with ⟨Hrow, Hrows⟩
  ihave HS := (send_init m ρ c) $$ [HO HtS HtV Hrows Hslots]
  · isplitl [HO]; · iexact HO
    isplitl [HtS]; · iexact HtS
    isplitl [HtV]; · iexact HtV
    isplitl [Hrows] <;> iassumption
  iapply (send_step m ρ K c 1 (by decide) _ (Fin.ext (k0_dev16_eq c)) _ (off2_at c 1 (by decide))) $$ [HS]
  · isplitr; · iexact HR
    iexact HS
  iintro HS
  iapply (send_step m ρ K c 2 (by decide) _ (Fin.ext (k0_dev17_eq c)) _ (off2_at c 2 (by decide))) $$ [HS]
  · isplitr; · iexact HR
    iexact HS
  iintro HS
  iapply (send_step m ρ K c 3 (by decide) _ (Fin.ext (k0_dev18_eq c)) _ (off2_at c 3 (by decide))) $$ [HS]
  · isplitr; · iexact HR
    iexact HS
  iintro HS
  iapply (send_step m ρ K c 4 (by decide) _ (Fin.ext (k0_dev19_eq c)) _ (off2_at c 4 (by decide))) $$ [HS]
  · isplitr; · iexact HR
    iexact HS
  iintro HS
  iapply (send_step m ρ K c 5 (by decide) _ (Fin.ext (k0_dev20_eq c)) _ (off2_at c 5 (by decide))) $$ [HS]
  · isplitr; · iexact HR
    iexact HS
  iintro HS
  iapply (send_step m ρ K c 6 (by decide) _ (Fin.ext (k0_dev21_eq c)) _ (off2_at c 6 (by decide))) $$ [HS]
  · isplitr; · iexact HR
    iexact HS
  iintro HS
  iapply (send_step m ρ K c 7 (by decide) _ (Fin.ext (k0_dev22_eq c)) _ (off2_at c 7 (by decide))) $$ [HS]
  · isplitr; · iexact HR
    iexact HS
  iintro HS
  iapply (send_step m ρ K c 8 (by decide) _ (Fin.ext (k0_dev23_eq c)) _ (off2_at c 8 (by decide))) $$ [HS]
  · isplitr; · iexact HR
    iexact HS
  iintro HS
  iapply (send_step m ρ K c 9 (by decide) _ (Fin.ext (k0_dev24_eq c)) _ (off2_at c 9 (by decide))) $$ [HS]
  · isplitr; · iexact HR
    iexact HS
  iintro HS
  iapply (send_step m ρ K c 10 (by decide) _ (Fin.ext (k0_dev25_eq c)) _ (off2_at c 10 (by decide))) $$ [HS]
  · isplitr; · iexact HR
    iexact HS
  iintro HS
  iapply (send_step m ρ K c 11 (by decide) _ (Fin.ext (k0_dev26_eq c)) _ (off2_at c 11 (by decide))) $$ [HS]
  · isplitr; · iexact HR
    iexact HS
  iintro HS
  iapply (send_step m ρ K c 12 (by decide) _ (Fin.ext (k0_dev27_eq c)) _ (off2_at c 12 (by decide))) $$ [HS]
  · isplitr; · iexact HR
    iexact HS
  iintro HS
  iapply (send_step m ρ K c 13 (by decide) _ (Fin.ext (k0_dev28_eq c)) _ (off2_at c 13 (by decide))) $$ [HS]
  · isplitr; · iexact HR
    iexact HS
  iintro HS
  iapply (send_step m ρ K c 14 (by decide) _ (Fin.ext (k0_dev29_eq c)) _ (off2_at c 14 (by decide))) $$ [HS]
  · isplitr; · iexact HR
    iexact HS
  iintro HS
  iapply (send_step m ρ K c 15 (by decide) _ (Fin.ext (k0_dev30_eq c)) _ (off2_at c 15 (by decide))) $$ [HS]
  · isplitr; · iexact HR
    iexact HS
  iintro HS
  ihave HS' := (show (SendSt m ρ c ((15 : Fin 16).val + 1) : sProp 𝕄) ⊢ _ from send_end m ρ c) $$ HS
  icases HS' with ⟨HO, HcS⟩
  -- the products, slot by slot
  ihave Ho := (owns_of_some (F := F) c cc0_stg2_0 fo) $$ Ho
  ihave Ha := (owns_of_some (F := F) c cc0_scratch2 fa) $$ Ha
  iapply (first_step m ρ c _ ((k0_off3_eq c).trans (by rw [hc0])) fo) $$ [Hs0 Hw Ho]
  · isplitl [Hs0]; · iexact Hs0
    isplitl [Hw] <;> iassumption
  iintro ⟨Hs0, Hw, Ho⟩
  ihave HaS' := (Entails.of_eq (all_steps fun i => atPos ER (sendCell c i) 0 ∅ 0)) $$ HaS
  icases HaS' with ⟨HaS0, HaS⟩
  ihave HaV' := (Entails.of_eq (all_steps fun i => atPos ER (recvCell c i) 0 ∅ 0)) $$ HaV
  icases HaV' with ⟨HaV0, HaV⟩
  ihave HS := (recv_init m ρ c) $$ [HO HaV HcV]
  · isplitl [HO]; · iexact HO
    isplitl [HaV] <;> iassumption
  iapply (recv_core m ρ K c 1 (by decide) _ (off4_at c 1 (by decide))) $$ [HS Hw]
  · isplitr; · iexact HR
    isplitl [HS]; · iexact HS
    iexact Hw
  iintro ⟨HS, Hw⟩
  iapply (acc_load c aM fa) $$ Ha; iintro Ha
  iapply (acc_store c aM fa _) $$ Ha; iintro Ha
  iapply (acc_step m ρ K c 2 (by decide) _ (off4_at c 2 (by decide)) oM _ k0_pay7) $$ [HS Hw Ho]
  · isplitr; · iexact HR
    isplitl [HS]; · iexact HS
    isplitl [Hw]; · iexact Hw
    iassumption
  iintro ⟨HS, Hw, Ho⟩
  iapply (acc_step m ρ K c 3 (by decide) _ (off4_at c 3 (by decide)) aM _ k0_pay8) $$ [HS Hw Ha]
  · isplitr; · iexact HR
    isplitl [HS]; · iexact HS
    isplitl [Hw]; · iexact Hw
    iassumption
  iintro ⟨HS, Hw, Ha⟩
  iapply (acc_step m ρ K c 4 (by decide) _ (off4_at c 4 (by decide)) oM _ k0_pay7) $$ [HS Hw Ho]
  · isplitr; · iexact HR
    isplitl [HS]; · iexact HS
    isplitl [Hw]; · iexact Hw
    iassumption
  iintro ⟨HS, Hw, Ho⟩
  iapply (acc_step m ρ K c 5 (by decide) _ (off4_at c 5 (by decide)) aM _ k0_pay8) $$ [HS Hw Ha]
  · isplitr; · iexact HR
    isplitl [HS]; · iexact HS
    isplitl [Hw]; · iexact Hw
    iassumption
  iintro ⟨HS, Hw, Ha⟩
  iapply (acc_step m ρ K c 6 (by decide) _ (off4_at c 6 (by decide)) oM _ k0_pay7) $$ [HS Hw Ho]
  · isplitr; · iexact HR
    isplitl [HS]; · iexact HS
    isplitl [Hw]; · iexact Hw
    iassumption
  iintro ⟨HS, Hw, Ho⟩
  iapply (acc_step m ρ K c 7 (by decide) _ (off4_at c 7 (by decide)) aM _ k0_pay8) $$ [HS Hw Ha]
  · isplitr; · iexact HR
    isplitl [HS]; · iexact HS
    isplitl [Hw]; · iexact Hw
    iassumption
  iintro ⟨HS, Hw, Ha⟩
  iapply (acc_step m ρ K c 8 (by decide) _ (off4_at c 8 (by decide)) oM _ k0_pay7) $$ [HS Hw Ho]
  · isplitr; · iexact HR
    isplitl [HS]; · iexact HS
    isplitl [Hw]; · iexact Hw
    iassumption
  iintro ⟨HS, Hw, Ho⟩
  iapply (acc_step m ρ K c 9 (by decide) _ (off4_at c 9 (by decide)) aM _ k0_pay8) $$ [HS Hw Ha]
  · isplitr; · iexact HR
    isplitl [HS]; · iexact HS
    isplitl [Hw]; · iexact Hw
    iassumption
  iintro ⟨HS, Hw, Ha⟩
  iapply (acc_step m ρ K c 10 (by decide) _ (off4_at c 10 (by decide)) oM _ k0_pay7) $$ [HS Hw Ho]
  · isplitr; · iexact HR
    isplitl [HS]; · iexact HS
    isplitl [Hw]; · iexact Hw
    iassumption
  iintro ⟨HS, Hw, Ho⟩
  iapply (acc_step m ρ K c 11 (by decide) _ (off4_at c 11 (by decide)) aM _ k0_pay8) $$ [HS Hw Ha]
  · isplitr; · iexact HR
    isplitl [HS]; · iexact HS
    isplitl [Hw]; · iexact Hw
    iassumption
  iintro ⟨HS, Hw, Ha⟩
  iapply (acc_step m ρ K c 12 (by decide) _ (off4_at c 12 (by decide)) oM _ k0_pay7) $$ [HS Hw Ho]
  · isplitr; · iexact HR
    isplitl [HS]; · iexact HS
    isplitl [Hw]; · iexact Hw
    iassumption
  iintro ⟨HS, Hw, Ho⟩
  iapply (acc_step m ρ K c 13 (by decide) _ (off4_at c 13 (by decide)) aM _ k0_pay8) $$ [HS Hw Ha]
  · isplitr; · iexact HR
    isplitl [HS]; · iexact HS
    isplitl [Hw]; · iexact Hw
    iassumption
  iintro ⟨HS, Hw, Ha⟩
  iapply (acc_step m ρ K c 14 (by decide) _ (off4_at c 14 (by decide)) oM _ k0_pay7) $$ [HS Hw Ho]
  · isplitr; · iexact HR
    isplitl [HS]; · iexact HS
    isplitl [Hw]; · iexact Hw
    iassumption
  iintro ⟨HS, Hw, Ho⟩
  iapply (acc_step m ρ K c 15 (by decide) _ (off4_at c 15 (by decide)) aM _ k0_pay8) $$ [HS Hw Ha]
  · isplitr; · iexact HR
    isplitl [HS]; · iexact HS
    isplitl [Hw]; · iexact Hw
    iassumption
  iintro ⟨HS, Hw, Ha⟩
  ihave HS' := (show (RecvSt m ρ c ((15 : Fin 16).val + 1) : sProp 𝕄) ⊢ _ from recv_end m ρ c) $$ HS
  icases HS' with ⟨HO, Hgot, HzV⟩
  -- the rows lent come back
  ihave HS := (swait_init m ρ c) $$ [HO HaS HcS]
  · isplitl [HO]; · iexact HO
    isplitl [HaS] <;> iassumption
  iapply (swait_step m ρ K c 1 (by decide)) $$ [HS]
  · isplitr; · iexact HR
    iexact HS
  iintro HS
  iapply (swait_step m ρ K c 2 (by decide)) $$ [HS]
  · isplitr; · iexact HR
    iexact HS
  iintro HS
  iapply (swait_step m ρ K c 3 (by decide)) $$ [HS]
  · isplitr; · iexact HR
    iexact HS
  iintro HS
  iapply (swait_step m ρ K c 4 (by decide)) $$ [HS]
  · isplitr; · iexact HR
    iexact HS
  iintro HS
  iapply (swait_step m ρ K c 5 (by decide)) $$ [HS]
  · isplitr; · iexact HR
    iexact HS
  iintro HS
  iapply (swait_step m ρ K c 6 (by decide)) $$ [HS]
  · isplitr; · iexact HR
    iexact HS
  iintro HS
  iapply (swait_step m ρ K c 7 (by decide)) $$ [HS]
  · isplitr; · iexact HR
    iexact HS
  iintro HS
  iapply (swait_step m ρ K c 8 (by decide)) $$ [HS]
  · isplitr; · iexact HR
    iexact HS
  iintro HS
  iapply (swait_step m ρ K c 9 (by decide)) $$ [HS]
  · isplitr; · iexact HR
    iexact HS
  iintro HS
  iapply (swait_step m ρ K c 10 (by decide)) $$ [HS]
  · isplitr; · iexact HR
    iexact HS
  iintro HS
  iapply (swait_step m ρ K c 11 (by decide)) $$ [HS]
  · isplitr; · iexact HR
    iexact HS
  iintro HS
  iapply (swait_step m ρ K c 12 (by decide)) $$ [HS]
  · isplitr; · iexact HR
    iexact HS
  iintro HS
  iapply (swait_step m ρ K c 13 (by decide)) $$ [HS]
  · isplitr; · iexact HR
    iexact HS
  iintro HS
  iapply (swait_step m ρ K c 14 (by decide)) $$ [HS]
  · isplitr; · iexact HR
    iexact HS
  iintro HS
  iapply (swait_step m ρ K c 15 (by decide)) $$ [HS]
  · isplitr; · iexact HR
    iexact HS
  iintro HS
  ihave HS' := (show (SwaitSt m ρ c ((15 : Fin 16).val + 1) : sProp 𝕄) ⊢ _ from swait_end m ρ c) $$ HS
  icases HS' with ⟨HO, Hrows, HzS⟩
  -- the two sums and the result
  iapply (acc_load c oM _) $$ Ho; iintro Ho
  iapply (acc_load c aM _) $$ Ha; iintro Ha
  iapply (acc_load c oM _) $$ Ho; iintro Ho
  iapply (acc_store c oM _ _) $$ Ho; iintro Ho
  -- the cells numbered 0 were never used
  ihave #HIs := (inv_send m ρ K c 0) $$ HR
  ihave #HIv := (inv_recv m ρ K c 0) $$ HR
  imod (Rounds.cell_close ER (rd m ρ) (Set.mem_univ (K (c, some (false, 0)))) (fun h => h) (R := 0) (duties_send0 m ρ c)) $$ [HaS0] with HzS0
  · isplitr; · iexact HIs
    iexact HaS0
  imod (Rounds.cell_close ER (rd m ρ) (Set.mem_univ (K (c, some (true, 0)))) (fun h => h) (R := 0) (duties_recv0 m ρ c)) $$ [HaV0] with HzV0
  · isplitr; · iexact HIv
    iexact HaV0
  rw [wp_ret]; imodintro
  iapply Hk
  unfold zeros
  rw [all_steps fun i => semVal (sendCell c i) 0, all_steps fun i => semVal (recvCell c i) 0]
  isplitl [HzB HzS HzS0 HzV HzV0]
  · isplitl [HzB]; · iexact HzB
    isplitl [HzS HzS0]
    · isplitl [HzS0] <;> iassumption
    isplitl [HzV0] <;> iassumption
  isplitl [HO]; · iexact HO
  isplitl [Hx Hw Ho]
  · isplitl [Hx]; · iexact Hx
    isplitl [Hw]; · iexact Hw
    iexact Ho
  isplitl [Hrow Hrows]
  · iexists (xb m ρ c)
    rw [rows_eq]
    isplitl [Hrow] <;> iassumption
  isplitl [Hs0 Hgot]
  · iapply (slots_join (F := F) c fg)
    rw [all_steps]
    isplitl [Hs0]
    · iapply (slot_forget m ρ c 0); iexact Hs0
    iapply (show (bigSep (rangeSet 16 1 16) fun i => slotGot m ρ c i : sProp 𝕄) ⊢ bigSep (rangeSet 16 1 16) fun i => iprop(∃ f, slotPts (F := F) c i f)
      from bigSep_mono fun i _ => slot_forget m ρ c i)
    iexact Hgot
  iapply (some_of_owns (F := F) c cc0_scratch2 _); iexact Ha

end Cert.AllToAll

end
-- ==== Proof.Launch.lean ====
/-
# The launch

Funding the cells and their tokens, dealing the tokens and the credits to the devices that use them, and the run of the
whole program: every weakly fair execution ends, with the computed block in each device's result array, the operands
unchanged and every semaphore counter at zero.
-/
module

public import proofs.«01_k».proof.Proof.Body
public import Idealize.ShloMosaic.Lib.Pipeline.CollectiveSegs

@[expose] public section

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.Ring (rangeSet mem_rangeSet)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What device `c` starts the body with besides its scratch buffers; -/
def start (c : Dev nD) : sProp 𝕄 := iprop((∃ K, records m ρ K) ∗ held (F := F) c)
def Φ₀ (c : Dev nD) : sProp 𝕄 := iprop(start m ρ c ∗ some_ (F := F) c cc0_scratch0 ∗ some_ (F := F) c cc0_scratch1 ∗ some_ (F := F) c cc0_scratch2)
/-- and what it ends with. -/
def Φ₁ (c : Dev nD) : sProp 𝕄 := iprop(zeros (F := F) c ∗ some_ (F := F) c cc0_scratch0 ∗ some_ (F := F) c cc0_scratch1 ∗ some_ (F := F) c cc0_scratch2)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => res m ρ c
  Φ t := match t with
    | ⟨0, _⟩ => Φ₀ m ρ c
    | ⟨_ + 1, _⟩ => Φ₁ (F := F) c
  q _ := fullShare
  owed t := match t with
    | ⟨0, _⟩ => Osig c 1
    | ⟨_ + 1, _⟩ => 0

omit [FloatOps F] in
theorem bigSep_W (Φ : Fin cfg0.W → sProp 𝕄) : bigSep Finset.univ Φ = iprop(Φ (0 : Fin 3) ∗ Φ (1 : Fin 3) ∗ Φ (2 : Fin 3)) := bigSep_W0 Φ

theorem fetch_x (t : Fin cfg0.N) : (cfg0.win (0 : Fin 3)).fetch t = true := by rw [fin_N t]; rfl
theorem fetch_w (t : Fin cfg0.N) : (cfg0.win (1 : Fin 3)).fetch t = true := by rw [fin_N t]; rfl

/-- Buffer `b` of device `c`, its contents `X`. -/
def stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

omit [FloatOps F] in
theorem owns_whole (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns stg; simp only [Memref.view_whole, View.read_whole, View.set_whole]

def bodyPre (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))
def bodyPost (c : Dev nD) : sProp 𝕄 :=
  iprop(Φ₁ (F := F) c ∗ (dats m ρ 0 c).owesAt () t₀.succ
    ∗ stg c cc0_stg0_0 (xstg m ρ c) ∗ stg c cc0_stg1_0 (wstg m ρ c) ∗ stg c cc0_stg2_0 (res m ρ c))

theorem body_run (c : Dev nD) : bodyPre m ρ c ⊢ wp frame (wpE (defs₀ (F := F)) 𝒱₀ (c : Thread nD τ) none) Set.univ
    (cc0_body (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      (Memref.whole cc0_scratch1) (Memref.isWhole_whole _) (Memref.whole cc0_scratch2) (Memref.isWhole_whole _) cc0_scratch3 cc0_scratch4)
    (fun _ => bodyPost m ρ c) := by
  have hx : ∀ d, (dats m ρ 0 c).before (0 : Fin 3) t₀ d = xstg m ρ c := fun d => by unfold Dat.before; rw [if_pos (fetch_x t₀)]; rfl
  have hw : ∀ d, (dats m ρ 0 c).before (1 : Fin 3) t₀ d = wstg m ρ c := fun d => by unfold Dat.before; rw [if_pos (fetch_w t₀)]; rfl
  unfold bodyPre bodyPost Φ₀ Φ₁ start Dat.owesAt Pipeline.owesWithin stg
  iintro ⟨⟨⟨⟨%K, HK⟩, Hh⟩, Hb, Hg, Ha⟩, ⟨%W, -, HO⟩, ⟨%d0, %g0, %hg0, Hx⟩, ⟨%d1, %g1, %hg1, Hw⟩, ⟨%d2, %g2, -, Ho⟩⟩
  rw [hx] at hg0; rw [hw] at hg1
  subst hg0 hg1
  iapply (sound_body m ρ K c fun _ => _) $$ [HK Hh Hb Hg Ha HO Hx Hw Ho]
  · isplitl [HK]; · iexact HK
    isplitl [Hh]; · iexact Hh
    isplitl [HO]; · iexists W; iexact HO
    isplitl [Hx Hw Ho]
    · isplitl [Hx]; · iexact Hx
      isplitl [Hw]; · unfold wPts; iexact Hw
      unfold some_; iexists _; iexact Ho
    isplitl [Hb]; · iexact Hb
    isplitl [Hg] <;> iassumption
  · unfold wPts
    rw [owns_whole]
    unfold stg
    iintro ⟨Hz, ⟨%W', HO⟩, ⟨Hx, Hw, Ho⟩, Hb, Hg, Ha⟩
    isplitl [Hz Hb Hg Ha]
    · isplitl [Hz]; · iexact Hz
      isplitl [Hb]; · iexact Hb
      isplitl [Hg] <;> iassumption
    isplitl [HO]
    · iexists W'
      isplitr; · (ipureintro; exact fun _ _ => Or.inl trivial)
      iexact HO
    isplitl [Hx]
    · iexists _; isplitr; · (ipureintro; rfl)
      iexact Hx
    isplitl [Hw]
    · iexists _; isplitr; · (ipureintro; rfl)
      iexact Hw
    iexact Ho

set_option maxRecDepth 40000 in
theorem body_obligation (c : Dev nD) : BodyObligation (dats (F := F) m ρ 0 c) (defs₀ (F := F)) 𝒱₀ () Set.univ := fun t => by
  rw [fin_N t]
  rw [bigSep_W, bigSep_W]
  simp only [owns_whole]
  exact body_run m ρ c

/-! ## Cells and tokens -/

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by
  have hr : ∀ k : CI, role (csem k) = (match k with | none => .bar | some (false, j) => .send j | some (true, j) => .recv j) := by
    rintro (_ | ⟨_ | _, j⟩)
    · rfl
    · exact role_send j
    · exact role_recv j
  intro k k' h
  have h' := (hr k).symm.trans ((congrArg role h).trans (hr k'))
  rcases k with _ | ⟨_ | _, j⟩ <;> rcases k' with _ | ⟨_ | _, j'⟩ <;> cases h' <;> rfl

theorem kcell_injective : Function.Injective (kcell : Dev nD × CI → GSem nD τ sig) := by
  rintro ⟨c, k⟩ ⟨c', k'⟩ h
  have h1 : c = c' := congrArg (fun g : GSem nD τ sig => g.1.1) h
  have h2 : k = k' := csem_injective (congrArg Prod.snd h)
  rw [h1, h2]

def allCells : Finset (GSem nD τ sig) := Finset.univ.map ⟨kcell, kcell_injective⟩

/-- The tokens of a device's own cells: one for each signal expected, one for each send, one for each receive. -/
abbrev tokKind : Fin 3 × Fin 16 → SemLoc sig × Fin 16
  | (0, i) => (.reg barS, i)
  | (1, j) => (.dma (sendS j), 0)
  | (2, j) => (.dma (recvS j), 0)
theorem tokKind_injective : Function.Injective tokKind := by decide
abbrev tokOf (ck : Dev nD × (Fin 3 × Fin 16)) : GSem nD τ sig × ℕ × Fin 16 :=
  (((ck.1 : Thread nD τ), (tokKind ck.2).1), 0, (tokKind ck.2).2)
theorem tokOf_injective : Function.Injective tokOf := by
  rintro ⟨c, k⟩ ⟨c', k'⟩ h
  have h1 : c = c' := congrArg (fun x : GSem nD τ sig × ℕ × Fin 16 => x.1.1.1) h
  have h2 : k = k' := tokKind_injective (Prod.ext (congrArg (fun x : GSem nD τ sig × ℕ × Fin 16 => x.1.2) h)
    (congrArg (fun x : GSem nD τ sig × ℕ × Fin 16 => x.2.2) h))
  rw [h1, h2]
def allToks : Finset (GSem nD τ sig × ℕ × Fin 16) := Finset.univ.map ⟨tokOf, tokOf_injective⟩

def u₀ : UU :=
  (initOf (Pipeline.cells cfgs cellOf_inj) (Pipeline.launchToks cfgs cellOf_inj), initOf allCells allToks)

def tokBar (c : Dev nD) (i : Fin 16) : sProp 𝕄 := dutyTok ER (barCell c) 0 i
def tokSend (c : Dev nD) (j : Fin 16) : sProp 𝕄 := dutyTok ER (sendCell c j) 0 0
def tokRecv (c : Dev nD) (j : Fin 16) : sProp 𝕄 := dutyTok ER (recvCell c j) 0 0

/-- The tokens as minted, -/
def toks (c : Dev nD) : sProp 𝕄 :=
  iprop((bigSep Finset.univ fun i => tokBar (F := F) c i) ∗ (bigSep Finset.univ fun j => tokSend (F := F) c j) ∗ bigSep Finset.univ fun j => tokRecv (F := F) c j)
/-- and with the device that spends them. -/
def payToks (c : Dev nD) : sProp 𝕄 :=
  iprop((bigSep Finset.univ fun i => tokBar (F := F) (c + i) (-i)) ∗ (bigSep Finset.univ fun j => tokSend (F := F) c j)
    ∗ bigSep Finset.univ fun j => tokRecv (F := F) (c + j) j)

def G (c : Dev nD) : sProp 𝕄 :=
  iprop((bigSep Finset.univ fun k : CI => roundState ER (rd m ρ) (kcell (c, k)) 0)
    ∗ (bigSep Finset.univ fun k : CI => iprop(atPos ER (kcell (c, k)) 0 ∅ 0 ∗ reached ER (kcell (c, k)) 0)) ∗ toks (F := F) c)

/-- Positions and tokens of device `c`. -/
def linear (c : Dev nD) : sProp 𝕄 := iprop((bigSep Finset.univ fun k : CI => atPos ER (kcell (c, k)) 0 ∅ 0) ∗ payToks (F := F) c)
def G' (c : Dev nD) : sProp 𝕄 := iprop((∃ K, records m ρ K) ∗ linear (F := F) c)

omit [FloatOps F] in
theorem bigSep_three (Φ : Fin 3 → sProp 𝕄) : bigSep Finset.univ Φ = iprop(Φ 0 ∗ Φ 1 ∗ Φ 2) := bigSep_univ_eq_bigSepL [0, 1, 2] (by decide) (by decide) Φ
omit [FloatOps F] in
theorem bigSep_two (Φ : Bool → sProp 𝕄) : bigSep Finset.univ Φ = iprop(Φ false ∗ Φ true) := bigSep_univ_eq_bigSepL [false, true] (by decide) (by decide) Φ
omit [FloatOps F] in
/-- A family over a device's cells: the barrier, the sends, the receives. -/
theorem bigSep_cells (Φ : CI → sProp 𝕄) :
    bigSep Finset.univ Φ = iprop(Φ none ∗ (bigSep Finset.univ fun i => Φ (some (false, i))) ∗ bigSep Finset.univ fun i => Φ (some (true, i))) := by
  have hu : (Finset.univ : Finset CI) = insert none (Finset.univ.map Function.Embedding.some) := by decide
  rw [hu, bigSep_insert (by decide), bigSep_map, bigSep_univ_prod, bigSep_two]; rfl

theorem fund_cells : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : CI => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks (F := F) c := by
    unfold allToks; rw [bigSep_map, bigSep_univ_prod]
    exact bigSep_congr fun c _ => by unfold toks; rw [bigSep_univ_prod, bigSep_three]; rfl
  iintro HX
  imod (Rounds.fund ER (rd m ρ) allCells allToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The kernel's own semaphores: the sends and the receives; -/
theorem ownSems0_eq (c : Dev nD) : (Pipeline.ownSems0 (Ix := Unit) (Name := ℕ) (U := UU) (Lvl := ℕ) (Val := Elt F) (τ := τ) osem c : sProp 𝕄)
    = iprop((bigSep Finset.univ fun i => semVal (sendCell c i) 0) ∗ bigSep Finset.univ fun i => semVal (recvCell c i) 0) := by
  unfold Pipeline.ownSems0; rw [bigSep_univ_prod, bigSep_two]; rfl
omit [FloatOps F] in
/-- the barrier is the launch's one semaphore besides. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem zeros_eq (c : Dev nD) : (zeros (F := F) c : sProp 𝕄) = bigSep Finset.univ fun k : CI => semVal (kcell (c, k)) 0 := by
  rw [bigSep_cells]; rfl

omit [FloatOps F] in
theorem sems_dealt (c : Dev nD) :
    iprop(unscopedSems0 c ∗ Pipeline.ownSems0 (Ix := Unit) (Name := ℕ) (U := UU) (Lvl := ℕ) (Val := Elt F) (τ := τ) osem c) = (zeros (F := F) c : sProp 𝕄) := by
  rw [ownSems0_eq, unscopedSems0_eq]; rfl

theorem cells_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks (F := F) c) := by
  unfold G
  iintro ⟨Hos, Hus, Hst, Hat, Htok⟩
  ihave Hv := (Entails.of_eq ((sems_dealt (F := F) c).trans (zeros_eq c))) $$ [Hos Hus]
  · isplitl [Hus] <;> iassumption
  imod (show iprop((bigSep Finset.univ fun k : CI => semVal (kcell (c, k)) 0) ∗ bigSep Finset.univ fun k : CI => roundState ER (rd m ρ) (kcell (c, k)) 0)
      ⊢ (|={Set.univ}=> bigSep Finset.univ fun k => iprop(∃ κ : ℕ, cellInv ER (rd m ρ) κ (kcell (c, k))) : sProp 𝕄) from by
        rw [← bigSep_sep']
        exact (bigSep_mono fun k _ => (Rounds.body_intro ER (rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## Dealing the tokens -/

/-- A token of step `i` made at a device goes to the device the step comes from. -/
def turnE : Dev nD × Fin 16 ≃ Dev nD × Fin 16 where
  toFun p := (p.1 + p.2, -p.2)
  invFun p := (p.1 + p.2, -p.2)
  left_inv := by decide
  right_inv := by decide
def stepE : Dev nD × Fin 16 ≃ Dev nD × Fin 16 where
  toFun p := (p.1 + p.2, p.2)
  invFun p := (p.1 - p.2, p.2)
  left_inv := by decide
  right_inv := by decide

omit [FloatOps F] in
theorem deal (e : Dev nD × Fin 16 ≃ Dev nD × Fin 16) (Φ : Dev nD → Fin 16 → sProp 𝕄) :
    (bigSep Finset.univ fun c : Dev nD => bigSep Finset.univ fun i : Fin 16 => Φ c i)
      = bigSep Finset.univ fun c : Dev nD => bigSep Finset.univ fun i : Fin 16 => Φ (e (c, i)).1 (e (c, i)).2 := by
  rw [← bigSep_univ_prod (fun p : Dev nD × Fin 16 => Φ p.1 p.2), bigSep_univ_equiv e, bigSep_univ_prod]

omit [FloatOps F] in
theorem toks_dealt : (bigSep Finset.univ fun c : Dev nD => (toks (F := F) c : sProp 𝕄)) = bigSep Finset.univ fun c : Dev nD => payToks (F := F) c := by
  unfold toks payToks
  rw [bigSep_sep', bigSep_sep', bigSep_sep', bigSep_sep', deal turnE (tokBar (F := F)), deal stepE (tokRecv (F := F))]
  rfl

theorem records_some (K : Dev nD × CI → ℕ) : (records m ρ K : sProp 𝕄) ⊢ iprop(∃ K, records m ρ K) := by
  iintro H; iexists K; iexact H

theorem regroup :
    (bigSep Finset.univ fun c : Dev nD => iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks (F := F) c) : sProp 𝕄)
      ⊢ bigSep Finset.univ (G' m ρ) := by
  rw [bigSep_sep', bigSep_sep', ← bigSep_univ_prod (fun ck : Dev nD × CI => iprop(∃ κ : ℕ, cellInv ER (rd m ρ) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄)), toks_dealt]
  iintro ⟨HI, ⟨Hat, #HR⟩, Htok⟩
  ihave HK := (BI.bigSep_exists_pi Finset.univ (fun (ck : Dev nD × CI) (κ : ℕ) => (cellInv ER (rd m ρ) κ (kcell ck) : sProp 𝕄))) $$ HI
  icases HK with ⟨%K, #HI⟩
  unfold G'
  rw [bigSep_sep']
  isplitr
  · iapply (show (records m ρ K : sProp 𝕄) ⊢ bigSep Finset.univ fun _ : Dev nD => iprop(∃ K, records m ρ K) from
      (BI.bigSep_of_persistent Finset.univ (records m ρ K)).trans (bigSep_mono fun _ _ => records_some m ρ K))
    unfold records
    isplitl; · iexact HI
    iexact HR
  · unfold linear
    rw [bigSep_sep']
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => cells_alloc m ρ c).trans (bigSep_fupd _ _)).trans (BI.fupd_mono (regroup m ρ))

/-! ## The credits dealt -/

theorem bar_iff {a b : Dev nD} : barCell a = barCell b ↔ a = b :=
  ⟨fun h => congrArg (fun g : GSem nD τ sig => g.1.1) h, fun h => h ▸ rfl⟩
theorem recv_iff {a b : Dev nD} {i j : Fin 16} : recvCell a i = recvCell b j ↔ a = b ∧ i = j :=
  ⟨fun h => ⟨congrArg (fun g : GSem nD τ sig => g.1.1) h,
    (Prod.ext_iff.mp (Option.some.inj (csem_injective (a₁ := some (true, i)) (a₂ := some (true, j)) (congrArg Prod.snd h)))).2⟩, fun h => by rw [h.1, h.2]⟩
theorem bar_ne_recv {a b : Dev nD} {j : Fin 16} : barCell a ≠ recvCell b j := fun h => by cases congrArg Prod.snd h

theorem sum_at {I : Type} (s : Finset I) (f : I → CellTallies nD τ sig Unit) (g : GSem nD τ sig) (u : Unit) :
    (∑ i ∈ s, f i) g u = ∑ i ∈ s, f i g u := by
  rw [Finset.sum_apply, Finsupp.finset_sum_apply]

theorem owed_bar (d c : Dev nD) : Osig d 1 (barCell c) () = ∑ i ∈ rangeSet 16 1 16, if d = c - i then 1 else 0 := by
  unfold Osig Osend
  rw [Pi.add_apply, Finsupp.add_apply, sum_at, sum_at]
  have h2 : ∑ i ∈ rangeSet 16 1 16, tallyAt (recvCell (d + i) i) () N (barCell c) () = 0 :=
    Finset.sum_eq_zero fun i _ => by rw [tallyAt_ne_cell bar_ne_recv]; rfl
  rw [h2, Nat.add_zero]
  refine Finset.sum_congr rfl fun i _ => ?_
  rw [tallyAt_apply]
  refine if_congr ⟨fun h => ?_, fun h => ⟨?_, rfl⟩⟩ rfl rfl
  · rw [bar_iff.mp h.1, there_back]
  · rw [h, back_there]

theorem step_of_ne_zero : ∀ j : Fin 16, j ≠ 0 → j ∈ rangeSet 16 1 16 := by decide

theorem owed_recv (d c : Dev nD) (j : Fin 16) (hj : j ≠ 0) : Osig d 1 (recvCell c j) () = if d = c - j then N else 0 := by
  unfold Osig Osend
  rw [Pi.add_apply, Finsupp.add_apply, sum_at, sum_at]
  have h1 : ∑ i ∈ rangeSet 16 1 16, tallyAt (barCell (d + i)) () 1 (recvCell c j) () = 0 :=
    Finset.sum_eq_zero fun i _ => by rw [tallyAt_ne_cell bar_ne_recv.symm]; rfl
  rw [h1, Nat.zero_add, Finset.sum_eq_single_of_mem j (step_of_ne_zero j hj)]
  · rw [tallyAt_apply]
    refine if_congr ⟨fun h => ?_, fun h => ⟨?_, rfl⟩⟩ rfl rfl
    · rw [(recv_iff.mp h.1).1, there_back]
    · rw [h, back_there]
  · intro i _ hi
    rw [tallyAt_apply, if_neg fun h => hi (recv_iff.mp h.1).2.symm]

theorem launch_bar (c : Dev nD) :
    tallyOn (barCell c) (launchCredit (Pipeline.owing fun c => Osig c 1) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun i _ => (Finset.sum_ite_eq' Finset.univ (c - i) fun _ => 1).trans (if_pos (Finset.mem_univ _)),
    Finset.sum_const, card_steps]
  rfl

theorem launch_recv (c : Dev nD) (j : Fin 16) (hj : j ≠ 0) :
    tallyOn (recvCell c j) (launchCredit (Pipeline.owing fun c => Osig c 1) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => owed_recv d c j hj,
    Finset.sum_ite_eq' Finset.univ (c - j) fun _ => N, if_pos (Finset.mem_univ _)]

theorem ne_zero_of_step : ∀ i : Fin 16, i ∈ rangeSet 16 1 16 → i ≠ 0 := by decide

theorem recvLoc_injective : Function.Injective (fun j : Fin 16 => (SemLoc.dma (recvS j) : SemLoc sig)) := by decide

omit [FloatOps F] in
theorem creds (c : Dev nD) :
    (Pipeline.launchCred (fun c => Osig c 1) c : sProp 𝕄)
      ⊢ iprop(cred (tallyAt (barCell c) () 15) ∗ bigSep (rangeSet 16 1 16) fun i => cred (tallyAt (recvCell c i) () N)) := by
  unfold Pipeline.launchCred
  rw [bigSep_univ_at _ (SemLoc.reg barS), launch_bar]
  refine sep_mono_right ?_
  rw [bigSep_congr (s := rangeSet 16 1 16) fun i hi => congrArg (fun t => (cred t : sProp 𝕄)) (launch_recv c i (ne_zero_of_step i hi)).symm]
  refine (bigSep_subset (t := (rangeSet 16 1 16).map ⟨fun j : Fin 16 => (SemLoc.dma (recvS j) : SemLoc sig), recvLoc_injective⟩) fun x hx => ?_).trans
    (Entails.of_eq (bigSep_map _))
  obtain ⟨i, -, rfl⟩ := Finset.mem_map.mp hx
  exact Finset.mem_erase.mpr ⟨nofun, Finset.mem_univ _⟩

/-! ## The run -/

omit [FloatOps F] in
theorem linear_held (c : Dev nD) :
    (iprop(levAts L lv ∗ linear (F := F) c ∗ cred (tallyAt (barCell c) () 15) ∗ bigSep (rangeSet 16 1 16) fun i => cred (tallyAt (recvCell c i) () N)) : sProp 𝕄)
      ⊢ held (F := F) c := by
  unfold linear payToks held
  rw [bigSep_cells, all_steps fun i => tokBar (F := F) (c + i) (-i), all_steps fun j => tokSend (F := F) c j, all_steps fun j => tokRecv (F := F) (c + j) j]
  iintro ⟨Hl, ⟨Hat, ⟨-, H1⟩, ⟨-, H2⟩, -, H3⟩, Hc⟩
  isplitl [Hl]; · iexact Hl
  isplitl [Hat]; · iexact Hat
  isplitl [H1 H2 H3]
  · isplitl [H1]; · iexact H1
    isplitl [H2]; · iexact H2
    iexact H3
  iexact Hc

theorem start_intro (c : Dev nD) :
    iprop(Pipeline.unscopedRestP Pipeline.Prefetch.none cfg0.spec c (fun b => m ((c : Thread nD τ).loc b)) ∗ levAts L lv
        ∗ Pipeline.launchCred (fun c => Osig c 1) c ∗ prngReg c (ρ c) ∗ G' m ρ c)
      ⊢ |={Set.univ}=> iprop(start m ρ c ∗ emp) := by
  unfold start G'
  iintro ⟨-, Hlev, Hcr, -, HK, Hlin⟩
  ihave Hc := (creds (F := F) c) $$ Hcr
  imodintro
  isplitl
  · isplitl [HK]; · iexact HK
    iapply (linear_held (F := F) c)
    isplitl [Hlev]; · iexact Hlev
    isplitl [Hlin] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ some_
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq]
  unfold Φ₁ some_
  rw [← sems_dealt]
  iintro ⟨⟨Hu, Ho⟩, Hr⟩
  isplitl [Hu]; · iexact Hu
  isplitl [Ho] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> rfl) _ (by
      rcases t with ⟨_ | _, ht⟩
      · exact Or.inl rfl
      · exact Or.inr rfl)

def finalA (c : Dev nD) (w : Fin cfg0.W) : Buf (Elt F) ((cfg0.win w).arr.view.loc (c : Thread nD τ)) := (dats m ρ 0 c).arrAt w cfg0.N

def Final : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values, from any memory with zero counters: every weakly fair execution terminates, and every final
    state has each device's arrays at the computed contents and every semaphore counter at zero. -/
theorem run_main : θ_run defs (onTc (τ := τ) (main (F := F))) (s₀ m ρ) (fun r => Final m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun c => Osig c 1) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.AllToAll

end
-- ==== Proof.Value.lean ====
/-
# The run, read at the arrays

Each window is one block that is the whole array. So the staged operands are the argument arrays, the result array ends
holding what the body left in its staging buffer, and the argument arrays are unchanged.
-/
module

public import proofs.«01_k».proof.Proof.Launch
public import Idealize.ShloMosaic.Lib.Pipeline.Value

@[expose] public section

noncomputable section

namespace Cert.AllToAll

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

theorem xstg_eq (c : Dev nD) : xstg m ρ c = m ((c : Thread nD τ).loc main_arg0) :=
  Memref.read_access_unit_zero (Elt F) main_arg0 (funext fun a => by fin_cases a <;> decide) (fun a => by fin_cases a <;> decide) _
theorem wstg_eq (c : Dev nD) : wstg m ρ c = m ((c : Thread nD τ).loc main_arg1) :=
  Memref.read_access_unit_zero (Elt F) main_arg1 (funext fun a => by fin_cases a <;> decide) (fun a => by fin_cases a <;> decide) _

theorem final_x (c : Dev nD) : finalA m ρ c (0 : Fin 3) = m ((c : Thread nD τ).loc main_arg0) := (dats m ρ 0 c).arrAt_in (0 : Fin 3) rfl _
theorem final_w (c : Dev nD) : finalA m ρ c (1 : Fin 3) = m ((c : Thread nD τ).loc main_arg1) := (dats m ρ 0 c).arrAt_in (1 : Fin 3) rfl _

theorem final_res (c : Dev nD) : finalA m ρ c (2 : Fin 3) = res m ρ c := by
  have whole := fun f => Memref.read_access_unit_zero (Elt F) main_v1
    (off := fun a => win0_2.index (0 : Fin 1) a * main_v1.ty.shape.size a)
    (funext fun a => by fin_cases a <;> decide) (fun a => by fin_cases a <;> decide) f
  refine (whole _).symm.trans ?_
  unfold finalA
  rw [show cfg0.N = ((0 : Fin 1) : Fin cfg0.N).val + 1 from rfl, (dats m ρ 0 c).arrAt_succ (2 : Fin 3) (0 : Fin 1),
    if_pos (show (cfg0.win (2 : Fin 3)).flush (0 : Fin 1) = true by decide)]
  exact View.read_write_univ _ _

/-- Every weakly fair execution ends with `res` in each device's result array, the arguments unchanged and every semaphore
    counter at zero. -/
theorem run_read : θ_run defs (onTc (τ := τ) (main (F := F))) ⟨m, fun _ => 0, ρ⟩ fun r =>
    (∀ c : Dev nD, r.2.mem ((c : Thread nD τ).loc main_v1) = res m ρ c
      ∧ r.2.mem ((c : Thread nD τ).loc main_arg0) = m ((c : Thread nD τ).loc main_arg0)
      ∧ r.2.mem ((c : Thread nD τ).loc main_arg1) = m ((c : Thread nD τ).loc main_arg1))
    ∧ r.2.sem = fun _ => 0 :=
  (θ_run defs _ _).mono (fun _ h => ⟨fun c => ⟨(h.1 c (2 : Fin 3)).trans (final_res m ρ c),
    (h.1 c (0 : Fin 3)).trans (final_x m ρ c), (h.1 c (1 : Fin 3)).trans (final_w m ρ c)⟩, h.2⟩) (run_main m ρ)

end Cert.AllToAll

end
-- ==== Proof.Product.lean ====
/-
# The blocked product is the product

At the extended reals device `c` adds up, over its sixteen slots, the product of a 128×128 block of `x` with 128 rows of
`w`: the even slots in one accumulator, the odd ones in another. Slot `j` holds the rows of `c` out of the columns of
device `c - j`, so the sixteen products are the sixteen stretches of one 2048-long sum.
-/
module

public import proofs.«01_k».proof.Proof.Value
public import Idealize.ShloMosaic.Lib.Layout
public import Idealize.ShloMosaic.Lib.ValueIdx
public import Idealize.ShloMosaic.Lib.MatmulPlain
public import Idealize.ShloMosaic.Lib.Pipeline.ValueKit.Acc

@[expose] public section

noncomputable section

namespace Cert.AllToAll

open Cert.KernelIdeal Cert.KernelIdeal.Gen
open Idealize.ShloMosaic Idealize.ShloMosaic.TcCoe Idealize.ShloMosaic.ValueIdx Idealize.SL.Sem
open scoped BigOperators

/-! ## One slot's product -/

/-- The product of a block and a stretch of rows, at an entry. -/
def part (b : S128x128.Idx → EReal) (w : S128x2048.Idx → EReal) (i : S128x2048.Idx) : EReal :=
  ∑ k : Fin 128, b (ix2 (i 0) k) * w (ix2 k (i 1))

theorem first_apply (b : Vec Ideal S128x128 .bf16) (w : Vec Ideal S128x2048 .f32) (i : S128x2048.Idx) :
    k0_pay4 (F := Ideal) (k0_pay3 b) w i = part b w i := by
  unfold k0_pay4 k0_pay3
  dsimp only
  rw [shapeCast_self, shapeCast_shapeCast, eq_ix2 i]
  refine (Ideal.matmul_plain_apply (M := 128) (K := 128) (N := 2048) none _ _ _ (i 0) (i 1)).trans ?_
  rw [constant_apply, Ideal.ofBits_zero_f32, zero_add]
  rfl

theorem second_apply (b : Vec Ideal S128x128 .bf16) (w : Vec Ideal S128x2048 .f32) (i : S128x2048.Idx) :
    k0_pay6 (F := Ideal) (k0_pay5 (k0_pay3 b) w) i = part b w i := by
  unfold k0_pay6
  rw [shapeCast_self]
  exact first_apply b w i

theorem even_apply (b : Vec Ideal S128x128 .bf16) (w o : Vec Ideal S128x2048 .f32) (i : S128x2048.Idx) :
    k0_pay7 (F := Ideal) (k0_pay3 b) w o i = o i + part b w i := by
  rw [← first_apply]
  unfold k0_pay7 k0_pay4
  rw [addf_apply, shapeCast_self]

theorem odd_apply (b : Vec Ideal S128x128 .bf16) (w o : Vec Ideal S128x2048 .f32) (i : S128x2048.Idx) :
    k0_pay8 (F := Ideal) (k0_pay3 b) w o i = o i + part b w i := by
  rw [← first_apply]
  unfold k0_pay8 k0_pay4
  rw [shapeCast_self, addf_apply]

/-! ## The two accumulators -/

variable (m : (ℓ : Loc nD τ sig) → Buf (Elt Ideal) ℓ) (ρ : Dev nD → PrngReg) (c : Dev nD)

/-- What slot `j` adds at an entry. -/
def term (j : Fin 16) (i : S128x2048.Idx) : EReal := part (blk m ρ (c - j) c) (wblk m ρ c (c - j)) i

theorem fold_apply (step : Vec Ideal S128x2048 .f32 → Fin 16 → Vec Ideal S128x2048 .f32) (i : S128x2048.Idx) (f : Fin 16 → EReal)
    (h : ∀ X j, step X j i = X i + f j) (js : List (Fin 16)) (X : Vec Ideal S128x2048 .f32) :
    js.foldl step X i = X i + (js.map f).sum := by
  induction js generalizing X with
  | nil => simp
  | cons j js ih => rw [List.foldl_cons, ih, h, List.map_cons, List.sum_cons, add_assoc]

theorem evens (i : S128x2048.Idx) :
    evenAcc m ρ c i = (([0, 2, 4, 6, 8, 10, 12, 14] : List (Fin 16)).map fun j => term m ρ c j i).sum := by
  unfold evenAcc
  rw [fold_apply (evenStep m ρ c) i (fun j => term m ρ c j i) (fun X j => even_apply _ _ X i), List.map_cons, List.sum_cons]
  exact congrArg (· + _) (first_apply _ _ i)

theorem odds (i : S128x2048.Idx) :
    oddAcc m ρ c i = (([1, 3, 5, 7, 9, 11, 13, 15] : List (Fin 16)).map fun j => term m ρ c j i).sum := by
  unfold oddAcc
  rw [fold_apply (oddStep m ρ c) i (fun j => term m ρ c j i) (fun X j => odd_apply _ _ X i), List.map_cons, List.sum_cons]
  exact congrArg (· + _) (second_apply _ _ i)

theorem all_slots : (Finset.univ : Finset (Fin 16)).val
    = (([0, 2, 4, 6, 8, 10, 12, 14] ++ [1, 3, 5, 7, 9, 11, 13, 15] : List (Fin 16)) : Multiset (Fin 16)) := by decide

theorem both (i : S128x2048.Idx) : evenAcc m ρ c i + oddAcc m ρ c i = ∑ j : Fin 16, term m ρ c j i := by
  show _ = (Multiset.map (fun j => term m ρ c j i) Finset.univ.val).sum
  rw [all_slots, Multiset.map_coe, Multiset.sum_coe, List.map_append, List.sum_append, evens, odds]

/-- From a device the sixteen steps back reach every device once. -/
def back (c : Dev nD) : Fin 16 ≃ Fin 16 where
  toFun j := c - j
  invFun j := c - j
  left_inv := by revert c; decide
  right_inv := by revert c; decide

/-! ## Against the whole arrays -/

variable (X W : (⟨2, ![2048, 2048]⟩ : Shape).Idx → EReal)

/-- The product of the whole arrays, at an entry. -/
def whole (R q : Fin 2048) : EReal := ∑ k : Fin 2048, X (ix2 R k) * W (ix2 k q)

/-- Entry `r` of block `d` along a dimension of the whole. -/
def at_ (d : Fin 16) (r : Fin 128) : Fin 2048 := ⟨d.val * 128 + r.val, by omega⟩

theorem rounded (s : Dev nD) : xb m ρ s = xstg m ρ s := by
  unfold xb k0_pay2
  dsimp only
  rw [shapeCast_self, shapeCast_self]
  rfl

theorem blk_apply (hx : ∀ s : Dev nD, m ((s : Thread nD τ).loc main_arg0) = Layout.block ⟨2, ![2048, 128]⟩ ⟨2, ![2048, 2048]⟩ 1 16 s X)
    (s d : Dev nD) (r k : Fin 128) : blk m ρ s d (ix2 r k) = X (ix2 (at_ d r) (at_ s k)) := by
  unfold blk
  rw [rounded, xstg_eq, hx s]
  refine congrArg X (Shape.idx_ext₂ ?_ ?_)
  · show 128 * d.val + 1 * r.val = d.val * 128 + r.val
    omega
  · show s.val * 128 + (0 + 1 * k.val) = s.val * 128 + k.val
    omega

theorem wblk_apply (hw : m ((c : Thread nD τ).loc main_arg1) = W) (d : Dev nD) (k : Fin 128) (q : Fin 2048) :
    wblk m ρ c d (ix2 k q) = W (ix2 (at_ d k) q) := by
  unfold wblk
  rw [wstg_eq, hw]
  refine congrArg W (Shape.idx_ext₂ ?_ ?_)
  · show 128 * d.val + 1 * k.val = d.val * 128 + k.val
    omega
  · show 0 + 1 * q.val = q.val
    omega

/-- Device `c` adds up its rows of the whole product. -/
theorem both_eq (hx : ∀ s : Dev nD, m ((s : Thread nD τ).loc main_arg0) = Layout.block ⟨2, ![2048, 128]⟩ ⟨2, ![2048, 2048]⟩ 1 16 s X)
    (hw : m ((c : Thread nD τ).loc main_arg1) = W) (i : S128x2048.Idx) :
    evenAcc m ρ c i + oddAcc m ρ c i = whole X W (at_ c (i 0)) (i 1) := by
  rw [both, ← Equiv.sum_comp (back c)]
  unfold term part whole
  refine (Finset.sum_congr rfl fun j _ => Finset.sum_congr rfl fun k _ => ?_).trans
    (Fin.sum_mul_add_fin 16 128 fun l : Fin 2048 => X (ix2 (at_ c (i 0)) l) * W (ix2 l (i 1)))
  rw [show c - back c j = j from (back c).left_inv j]
  exact congrArg₂ (· * ·) (blk_apply m ρ X hx j c (i 0) k) (wblk_apply m ρ c W hw j k (i 1))

theorem res_eq (hx : ∀ s : Dev nD, m ((s : Thread nD τ).loc main_arg0) = Layout.block ⟨2, ![2048, 128]⟩ ⟨2, ![2048, 2048]⟩ 1 16 s X)
    (hw : m ((c : Thread nD τ).loc main_arg1) = W) (i : S128x2048.Idx) :
    res m ρ c i = whole X W (at_ c (i 0)) (i 1) * Ideal.logistic (whole X W (at_ c (i 0)) (i 1)) := by
  rw [← both_eq m ρ c X W hx hw]
  unfold res k0_pay1 k0_pay24
  dsimp only
  rw [mulf_apply, addf_apply, shapeCast_self]
  rfl

end Cert.AllToAll

end
-- ==== Proof.Silu.lean ====
/-
# The two host programs, read at an entry

With `y` the entry of the whole product, the program without the clip holds `y / (1 + exp (-y))`, which is the kernel's
`y * logistic y`; the reference holds the same wherever its clip leaves `y` alone.
-/
module

public import proofs.«01_k».proof.Proof.Product
public import proofs.«01_k».proof.Proof.Gen.ReferenceIdeal.Run
public import proofs.«01_k».proof.Proof.Gen.UnclippedIdeal.Run
public import proofs.«01_k».proof.Proof.Gen.On_within_clip
public import Idealize.ShloMosaic.Lib.StackMember
public import Idealize.ShloMosaic.Lib.IdealHost

@[expose] public section

noncomputable section

namespace Cert.AllToAll

open Idealize.ShloMosaic Idealize.ShloMosaic.TcCoe Idealize.ShloMosaic.ValueIdx Idealize.SL.Sem

theorem exp_nonneg (x : EReal) : 0 ≤ Ideal.exp x := by
  induction x with
  | bot => exact le_rfl
  | top => exact le_top
  | coe r => exact EReal.coe_nonneg.mpr (Real.exp_pos r).le

/-- Times the logistic, or over one plus the exponential: at every extended real the same. -/
theorem silu (y : EReal) : y * Ideal.logistic y = Ideal.div y (1 + Ideal.exp (-y)) := by
  have h : (1 : EReal) + Ideal.exp (-y) ≠ 0 :=
    (lt_of_lt_of_le zero_lt_one (le_add_of_nonneg_right (exp_nonneg _))).ne'
  rw [Ideal.logistic, Ideal.div, Ideal.div, if_neg h, if_neg h, one_mul]

variable (X W : FVec Ideal (⟨2, ![2048, 2048]⟩ : Shape) .f32) (j : (⟨2, ![2048, 2048]⟩ : Shape).Idx)

/-- The host's product at an entry. -/
theorem host_product : Host.dotGeneral (DotDims.plain 2048 2048 2048) none X W j = whole X W (j 0) (j 1) := by
  conv_lhs => rw [eq_ix2 j]
  exact StackMember.dotGeneral_plain_apply none X W (j 0) (j 1)

section Unclipped
open Cert.UnclippedIdeal Cert.UnclippedIdeal.Facts₀

/-- What the program without the clip computes. -/
def unclippedOut : FVec Ideal (⟨2, ![2048, 2048]⟩ : Shape) .f32 :=
  Host.divf (Host.dotGeneral Cert.UnclippedIdeal.dot_S2048x2048_S2048x2048_S2048x2048_1_0_0_1_n_n none X W)
    (addf (broadcastInDim Cert.UnclippedIdeal.S2048x2048 ![] bcast_S_S2048x2048 (constant Cert.UnclippedIdeal.S_ .f32 0x3F800000#32))
      (Host.exp (Host.negf (Host.dotGeneral Cert.UnclippedIdeal.dot_S2048x2048_S2048x2048_S2048x2048_1_0_0_1_n_n none X W))))

theorem unclipped_apply : unclippedOut X W j = whole X W (j 0) (j 1) * Ideal.logistic (whole X W (j 0) (j 1)) := by
  rw [silu, ← host_product]
  show Ideal.div _ (Ideal.ofBits .f32 0x3F800000#32 + _) = _
  rw [Ideal.ofBits_one_f32]
  rfl
end Unclipped

section Clipped
open Cert.ReferenceIdeal Cert.ReferenceIdeal.Facts₀

/-- What the reference computes. -/
def clippedOut : FVec Ideal (⟨2, ![2048, 2048]⟩ : Shape) .f32 :=
  Host.divf (Host.dotGeneral Cert.ReferenceIdeal.dot_S2048x2048_S2048x2048_S2048x2048_1_0_0_1_n_n none X W)
    (addf (broadcastInDim Cert.ReferenceIdeal.S2048x2048 ![] bcast_S_S2048x2048 (constant Cert.ReferenceIdeal.S_ .f32 0x3F800000#32))
      (Host.exp (Host.negf (minimumf
        (broadcastInDim Cert.ReferenceIdeal.S2048x2048 ![] bcast_S_S2048x2048 (id (constant Cert.ReferenceIdeal.S_ .f32 0x42700000#32)))
        (maximumf (broadcastInDim Cert.ReferenceIdeal.S2048x2048 ![] bcast_S_S2048x2048 (id (constant Cert.ReferenceIdeal.S_ .f32 0xC2700000#32)))
          (Host.dotGeneral Cert.ReferenceIdeal.dot_S2048x2048_S2048x2048_S2048x2048_1_0_0_1_n_n none X W))))))

theorem clipped_apply (hl : Ideal.ofBits .f32 0xC2700000#32 ≤ whole X W (j 0) (j 1))
    (hr : whole X W (j 0) (j 1) ≤ Ideal.ofBits .f32 0x42700000#32) :
    clippedOut X W j = whole X W (j 0) (j 1) * Ideal.logistic (whole X W (j 0) (j 1)) := by
  rw [silu]
  rw [← host_product] at hl hr ⊢
  show Ideal.div _ (Ideal.ofBits .f32 0x3F800000#32
    + Ideal.exp (-min (Ideal.ofBits .f32 0x42700000#32) (max (Ideal.ofBits .f32 0xC2700000#32)
        (Host.dotGeneral (DotDims.plain 2048 2048 2048) none X W j)))) = _
  rw [Ideal.ofBits_one_f32, max_eq_right hl, min_eq_right hr]
  rfl
end Clipped

theorem both_bits {p q : Prop} [Decidable p] [Decidable q]
    (h : IntOp.andi (BitVec.ofBool (decide p)) (BitVec.ofBool (decide q)) = 1#1) : p ∧ q := by
  by_cases hp : p <;> by_cases hq : q <;> simp_all [IntOp.andi]

/-- Where the mask is set, the product lies within the clip's bounds. -/
theorem mask_apply (h : Cert.On_within_clip.fn (F := Ideal) X W j = 1#1) :
    Ideal.ofBits .f32 0xC2700000#32 ≤ whole X W (j 0) (j 1) ∧ whole X W (j 0) (j 1) ≤ Ideal.ofBits .f32 0x42700000#32 := by
  rw [← host_product]
  exact both_bits h

/-- Where the kernel's entry lies in the whole result. -/
theorem place (c : Fin 16) (h : Layout.Tiles ⟨2, ![128, 2048]⟩ ⟨2, ![2048, 2048]⟩ 0 16) (i : (⟨2, ![128, 2048]⟩ : Shape).Idx) :
    h.idx c i = ix2 (at_ c (i 0)) (i 1) := Shape.idx_ext₂ rfl rfl

variable (m : (ℓ : Loc Cert.KernelIdeal.nD Cert.KernelIdeal.τ Cert.KernelIdeal.sig) → Buf (Elt Ideal) ℓ)
variable (ρ : Dev Cert.KernelIdeal.nD → PrngReg) (c : Dev Cert.KernelIdeal.nD)

/-- What device `c` ends with, entry by entry, against any array that holds the product times its logistic there. -/
theorem res_block (hx : ∀ s : Dev Cert.KernelIdeal.nD, m ((s : Thread Cert.KernelIdeal.nD Cert.KernelIdeal.τ).loc Cert.KernelIdeal.main_arg0)
      = Layout.block ⟨2, ![2048, 128]⟩ ⟨2, ![2048, 2048]⟩ 1 16 s X)
    (hw : m ((c : Thread Cert.KernelIdeal.nD Cert.KernelIdeal.τ).loc Cert.KernelIdeal.main_arg1) = W)
    (V : (⟨2, ![2048, 2048]⟩ : Shape).Idx → EReal) (i : (⟨2, ![128, 2048]⟩ : Shape).Idx)
    (hV : let j := ix2 (at_ c (i 0)) (i 1); V j = whole X W (j 0) (j 1) * Ideal.logistic (whole X W (j 0) (j 1))) :
    res m ρ c i = Layout.block ⟨2, ![128, 2048]⟩ ⟨2, ![2048, 2048]⟩ 0 16 c V (by decide) i := by
  rw [Layout.block_apply, place]
  exact (res_eq m ρ c X W hx hw i).trans hV.symm

end Cert.AllToAll

end
-- ==== Proof.lean ====
/-
# The certificate

The run of the kernel is written once, for any float values; each claim about a kernel program reads it at its own values.
The host programs' runs are the generated ones.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.UnclippedIdeal
public import proofs.«01_k».proof.Proof.Gen.UnclippedIdeal.Run
public import proofs.«01_k».proof.Proof.Gen.On_within_clip
public import proofs.«01_k».proof.Proof.Silu
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.ShloMosaic.ValueIdx Idealize.SL.Sem
open Cert.AllToAll

/-- The arguments unchanged and the counters at zero, for any float values. -/
theorem run_frame {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩ fun r =>
      (∀ c : Dev Cert.KernelIdeal.nD, r.2.mem (c.tc.loc Cert.KernelIdeal.main_arg0) = m (c.tc.loc Cert.KernelIdeal.main_arg0)
        ∧ r.2.mem (c.tc.loc Cert.KernelIdeal.main_arg1) = m (c.tc.loc Cert.KernelIdeal.main_arg1))
      ∧ r.2.sem = fun _ => 0 :=
  (θ_run Cert.KernelIdeal.defs _ _).mono (fun _ h => ⟨fun c => (h.1 c).2, h.2⟩) (run_read m ρ)

theorem frame_kernel_ideal : Cert.quiescent_KernelIdeal := fun m ρ _ => run_frame (F := Ideal) m ρ

/-- The two printed kernels hold the same body at their one label. -/
theorem bodies_same {F : FTy → Type} [FloatOps F] : Cert.Kernel.defs₀ (F := F) = Cert.KernelIdeal.defs₀ (F := F) := by
  unfold Cert.Kernel.defs₀ Cert.KernelIdeal.defs₀
  refine congrArg Defs.onTc (funext fun ℓ => funext fun a => ?_)
  rcases ℓ with ⟨_ | n, h⟩
  · rcases a with ⟨t, s⟩
    rfl
  · omega

theorem defs_same {F : FTy → Type} [FloatOps F] : Cert.Kernel.defs (F := F) = Cert.KernelIdeal.defs (F := F) :=
  congrArg (Pipeline.defs Cert.KernelIdeal.pcfgs) bodies_same

/-- The two printed kernels have the same text, so the one run serves both. -/
theorem frame_kernel : Cert.quiescent_Kernel := fun m ρ _ => by
  rw [defs_same]
  exact run_frame (F := Bits) m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_unclipped : Cert.quiescent_UnclippedIdeal := fun m ρ _ =>
  (θ_run Cert.UnclippedIdeal.defs _ _).mono (fun r h => ⟨fun c => (h c).2, sem_eq_zero_of_no_sems (by decide) r.2⟩)
    (Cert.UnclippedIdeal.Value.run (F := Ideal) m ρ)

/-- Every entry of the result against the product times its logistic, the program without the clip. -/
theorem value_unclipped : Cert.algebraic_KernelIdeal_UnclippedIdeal := fun m ρ m' ρ' _ ha =>
  ⟨unclippedOut (m' ((0 : Dev Cert.UnclippedIdeal.nD).tc.loc Cert.UnclippedIdeal.main_arg0))
      (m' ((0 : Dev Cert.UnclippedIdeal.nD).tc.loc Cert.UnclippedIdeal.main_arg1)),
    (θ_run Cert.KernelIdeal.defs _ _).mono
      (fun _ h c => ⟨(h.1 c).1.trans (funext fun i =>
        res_block _ _ m ρ c (fun s => (ha s).1) (ha c).2 _ i (unclipped_apply _ _ _)), (h.1 c).2⟩)
      (run_read (F := Ideal) m ρ),
    (θ_run Cert.UnclippedIdeal.defs _ _).mono (fun _ h => h 0) (Cert.UnclippedIdeal.Value.run (F := Ideal) m' ρ')⟩

/-- Every entry at which the clip does nothing against the reference. -/
theorem value_reference : Cert.algebraic_KernelIdeal_ReferenceIdeal_on_within_clip := fun m ρ m' ρ' _ ha =>
  ⟨clippedOut (m' ((0 : Dev Cert.ReferenceIdeal.nD).tc.loc Cert.ReferenceIdeal.main_arg0))
      (m' ((0 : Dev Cert.ReferenceIdeal.nD).tc.loc Cert.ReferenceIdeal.main_arg1)),
    (θ_run Cert.KernelIdeal.defs _ _).mono
      (fun _ h c => ⟨fun i hi => (congrFun (h.1 c).1 i).trans
        (res_block _ _ m ρ c (fun s => (ha s).1) (ha c).2 _ i
          (have hb := mask_apply _ _ _ (((congrArg _ (place c (by decide) i)).symm.trans hi))
           clipped_apply _ _ _ hb.1 hb.2)), (h.1 c).2⟩)
      (run_read (F := Ideal) m ρ),
    (θ_run Cert.ReferenceIdeal.defs _ _).mono (fun _ h => ⟨fun i _ => congrFun (h 0).1 i, (h 0).2⟩)
      (Cert.ReferenceIdeal.Value.run (F := Ideal) m' ρ')⟩

theorem claim : Cert.Claim :=
  ⟨Cert.Kernel.Gen.facts, Cert.KernelIdeal.Gen.facts, Cert.ReferenceIdeal.Gen.facts, Cert.UnclippedIdeal.Gen.facts,
    Cert.On_within_clip.Gen.facts, frame_kernel, frame_kernel_ideal, frame_reference, frame_unclipped, trivial,
    value_unclipped, value_reference⟩

end Cert.Proof

end
